-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v4_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v14_0) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x17408 : Shape := ⟨3, ![4, 512, 17408]⟩
abbrev S_ : Shape := ⟨0, ![]⟩
abbrev S4x512x5120 : Shape := ⟨3, ![4, 512, 5120]⟩
abbrev S17408x5120 : Shape := ⟨2, ![17408, 5120]⟩
abbrev S4 : Shape := ⟨1, ![4]⟩
abbrev S1 : Shape := ⟨1, ![1]⟩
abbrev S3 : Shape := ⟨1, ![3]⟩
abbrev S8x128 : Shape := ⟨2, ![8, 128]⟩
abbrev S4x512x512 : Shape := ⟨3, ![4, 512, 512]⟩
abbrev S512x2560 : Shape := ⟨2, ![512, 2560]⟩
abbrev S4x512x2560 : Shape := ⟨3, ![4, 512, 2560]⟩
abbrev S1x1 : Shape := ⟨2, ![1, 1]⟩
abbrev S512x512 : Shape := ⟨2, ![512, 512]⟩
abbrev S1x512x512 : Shape := ⟨3, ![1, 512, 512]⟩
abbrev S64x8x512 : Shape := ⟨3, ![64, 8, 512]⟩
abbrev S8x512 : Shape := ⟨2, ![8, 512]⟩
abbrev S8x4x128 : Shape := ⟨3, ![8, 4, 128]⟩
abbrev S1x512x2560 : Shape := ⟨3, ![1, 512, 2560]⟩
abbrev S512x1280 : Shape := ⟨2, ![512, 1280]⟩
abbrev S1x512x1280 : Shape := ⟨3, ![1, 512, 1280]⟩

abbrev nBuf : Space → Nat
  | .hbm => 18
  | .vmem => 17
  | .smem => 3
  | _ => 0

abbrev bufTy : (tb : Table) → Fin (tcTables nBuf tb) → BufTy
  | .hbm, ⟨0, _⟩ => ⟨S4x512x17408, .bf16⟩
  | .hbm, ⟨1, _⟩ => ⟨S_, .f32⟩
  | .hbm, ⟨2, _⟩ => ⟨S4x512x5120, .fp8e4m3⟩
  | .hbm, ⟨3, _⟩ => ⟨S_, .f32⟩
  | .hbm, ⟨4, _⟩ => ⟨S17408x5120, .fp8e4m3⟩
  | .hbm, ⟨5, _⟩ => ⟨S_, .f32⟩
  | .hbm, ⟨6, _⟩ => ⟨S17408x5120, .f32⟩
  | .hbm, ⟨7, _⟩ => ⟨S4, .i32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S3, .f32⟩
  | .hbm, ⟨12, _⟩ => ⟨S4x512x5120, .bf16⟩
  | .hbm, ⟨13, _⟩ => ⟨S8x128, .f32⟩
  | .hbm, ⟨14, _⟩ => ⟨S4x512x17408, .fp8e5m2⟩
  | .hbm, ⟨15, _⟩ => ⟨S17408x5120, .f32⟩
  | .hbm, ⟨16, _⟩ => ⟨S_, .f32⟩
  | .hbm, ⟨17, _⟩ => ⟨S_, .f32⟩
  | .local _ .vmem, ⟨0, _⟩ => ⟨S4x512x512, .bf16⟩
  | .local _ .vmem, ⟨1, _⟩ => ⟨S4x512x512, .bf16⟩
  | .local _ .vmem, ⟨2, _⟩ => ⟨S512x2560, .fp8e4m3⟩
  | .local _ .vmem, ⟨3, _⟩ => ⟨S512x2560, .fp8e4m3⟩
  | .local _ .vmem, ⟨4, _⟩ => ⟨S4x512x2560, .bf16⟩
  | .local _ .vmem, ⟨5, _⟩ => ⟨S4x512x2560, .bf16⟩
  | .local _ .vmem, ⟨6, _⟩ => ⟨S8x128, .f32⟩
  | .local _ .vmem, ⟨7, _⟩ => ⟨S4x512x512, .fp8e5m2⟩
  | .local _ .vmem, ⟨8, _⟩ => ⟨S4x512x512, .fp8e5m2⟩
  | .local _ .vmem, ⟨9, _⟩ => ⟨S4x512x2560, .f32⟩
  | .local _ .vmem, ⟨10, _⟩ => ⟨S4x512x512, .fp8e5m2⟩
  | .local _ .vmem, ⟨11, _⟩ => ⟨S4x512x512, .fp8e5m2⟩
  | .local _ .vmem, ⟨12, _⟩ => ⟨S4x512x5120, .fp8e4m3⟩
  | .local _ .vmem, ⟨13, _⟩ => ⟨S512x1280, .f32⟩
  | .local _ .vmem, ⟨14, _⟩ => ⟨S512x1280, .f32⟩
  | .local _ .vmem, ⟨15, _⟩ => ⟨S512x1280, .f32⟩
  | .local _ .vmem, ⟨16, _⟩ => ⟨S512x1280, .f32⟩
  | .local _ .smem, ⟨0, _⟩ => ⟨S4, .i32⟩
  | .local _ .smem, ⟨1, _⟩ => ⟨S3, .f32⟩
  | .local _ .smem, ⟨2, _⟩ => ⟨S3, .f32⟩
  | _, _ => ⟨S4x512x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_stg0_0 : Ref sig .tc := ⟨.smem, 0, rfl⟩
abbrev cc0_stg1_0 : Ref sig .tc := ⟨.smem, 1, rfl⟩
abbrev cc1_stg0_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![2, 34], ![false, false]⟩

def k0_cond3 (i : grid0.Coords) : BitVec 1 :=
  let arg1 : BitVec 32 := BitVec.ofNat 32 (i 1).val
  let c33_i32 : BitVec 32 := 33#32
  let v153 : BitVec 1 := Scalar.cmpi .eq arg1 c33_i32
  let v154 : BitVec 32 := Scalar.extui v153
  let c0_i32_101 : BitVec 32 := 0#32
  let v155 : BitVec 1 := Scalar.cmpi .ne v154 c0_i32_101
  v155

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2560 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x512x512 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev grid1 : Pipeline.Grid := ⟨2, ![34, 4], ![false, false]⟩

def k1_mult1 (i : grid1.Coords) : BitVec 32 :=
  let arg1 : BitVec 32 := BitVec.ofNat 32 (i 1).val
  let c1280_i32 : BitVec 32 := 1280#32
  let v0 : BitVec 32 := Scalar.muli arg1 c1280_i32
  v0
def k1_off1 (i : grid1.Coords) : Fin 3 → Nat :=
  let c0_2 : Index := 0#32
  let c0_3 : Index := 0#32
  let arg1 : BitVec 32 := BitVec.ofNat 32 (i 1).val
  let c1280_i32 : BitVec 32 := 1280#32
  let v0 : BitVec 32 := Scalar.muli arg1 c1280_i32
  let v1 : BitVec 32 := v0
  let v4 : Index := Scalar.indexCast v1
  ![0, 0, v4.toNat]
def k1_off2 (i : grid1.Coords) : Fin 3 → Nat :=
  let c1_6 : Index := 1#32
  let c0_7 : Index := 0#32
  let arg1 : BitVec 32 := BitVec.ofNat 32 (i 1).val
  let c1280_i32 : BitVec 32 := 1280#32
  let v0 : BitVec 32 := Scalar.muli arg1 c1280_i32
  let v1 : BitVec 32 := v0
  let v10 : Index := Scalar.indexCast v1
  ![1, 0, v10.toNat]
def k1_off3 (i : grid1.Coords) : Fin 3 → Nat :=
  let c2_11 : Index := 2#32
  let c0_12 : Index := 0#32
  let arg1 : BitVec 32 := BitVec.ofNat 32 (i 1).val
  let c1280_i32 : BitVec 32 := 1280#32
  let v0 : BitVec 32 := Scalar.muli arg1 c1280_i32
  let v1 : BitVec 32 := v0
  let v17 : Index := Scalar.indexCast v1
  ![2, 0, v17.toNat]
def k1_off4 (i : grid1.Coords) : Fin 3 → Nat :=
  let c3_16 : Index := 3#32
  let c0_17 : Index := 0#32
  let arg1 : BitVec 32 := BitVec.ofNat 32 (i 1).val
  let c1280_i32 : BitVec 32 := 1280#32
  let v0 : BitVec 32 := Scalar.muli arg1 c1280_i32
  let v1 : BitVec 32 := v0
  let v24 : Index := Scalar.indexCast v1
  ![3, 0, v24.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S4x512x512 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S4x512x5120 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4x512x17408 : Shape := ⟨3, ![4, 512, 17408]⟩
abbrev S_ : Shape := ⟨0, ![]⟩
abbrev S4x512x5120 : Shape := ⟨3, ![4, 512, 5120]⟩
abbrev S17408x5120 : Shape := ⟨2, ![17408, 5120]⟩
abbrev S4 : Shape := ⟨1, ![4]⟩
abbrev S512 : Shape := ⟨1, ![512]⟩
abbrev S1x512 : Shape := ⟨2, ![1, 512]⟩
abbrev S4x1 : Shape := ⟨2, ![4, 1]⟩
abbrev S4x512 : Shape := ⟨2, ![4, 512]⟩
abbrev S4x512x1 : Shape := ⟨3, ![4, 512, 1]⟩

abbrev nBuf : Space → Nat
  | .hbm => 42
  | .vmem => 7
  | .smem => 0
  | _ => 0

abbrev bufTy : (tb : Table) → Fin (tcTables nBuf tb) → BufTy
  | .hbm, ⟨0, _⟩ => ⟨S4x512x17408, .bf16⟩
  | .hbm, ⟨1, _⟩ => ⟨S_, .f32⟩
  | .hbm, ⟨2, _⟩ => ⟨S4x512x5120, .fp8e4m3⟩
  | .hbm, ⟨3, _⟩ => ⟨S_, .f32⟩
  | .hbm, ⟨4, _⟩ => ⟨S17408x5120, .fp8e4m3⟩
  | .hbm, ⟨5, _⟩ => ⟨S_, .f32⟩
  | .hbm, ⟨6, _⟩ => ⟨S17408x5120, .f32⟩
  | .hbm, ⟨7, _⟩ => ⟨S4, .i32⟩
  | .hbm, ⟨8, _⟩ => ⟨S512, .i32⟩
  | .hbm, ⟨9, _⟩ => ⟨S1x512, .i32⟩
  | .hbm, ⟨10, _⟩ => ⟨S4x1, .i32⟩
  | .hbm, ⟨11, _⟩ => ⟨S4x512, .i32⟩
  | .hbm, ⟨12, _⟩ => ⟨S4x512, .i32⟩
  | .hbm, ⟨13, _⟩ => ⟨S4x512, .i1⟩
  | .hbm, ⟨14, _⟩ => ⟨S4x512x1, .i1⟩
  | .hbm, ⟨15, _⟩ => ⟨S4x512x17408, .f32⟩
  | .hbm, ⟨16, _⟩ => ⟨S_, .f32⟩
  | .hbm, ⟨17, _⟩ => ⟨S_, .f32⟩
  | .hbm, ⟨18, _⟩ => ⟨S4x512x17408, .i1⟩
  | .hbm, ⟨19, _⟩ => ⟨S4x512x17408, .f32⟩
  | .hbm, ⟨20, _⟩ => ⟨S4x512x17408, .f32⟩
  | .hbm, ⟨21, _⟩ => ⟨S4x512x17408, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x512x17408, .f32⟩
  | .hbm, ⟨27, _⟩ => ⟨S4x512x17408, .f32⟩
  | .hbm, ⟨28, _⟩ => ⟨S4x512x17408, .fp8e5m2⟩
  | .hbm, ⟨29, _⟩ => ⟨S4x512x17408, .bf16⟩
  | .hbm, ⟨30, _⟩ => ⟨S4x512x5120, .bf16⟩
  | .hbm, ⟨31, _⟩ => ⟨S17408x5120, .bf16⟩
  | .hbm, ⟨32, _⟩ => ⟨S4x512x5120, .f32⟩
  | .hbm, ⟨33, _⟩ => ⟨S_, .f32⟩
  | .hbm, ⟨34, _⟩ => ⟨S4x512x5120, .f32⟩
  | .hbm, ⟨35, _⟩ => ⟨S4x512x5120, .f32⟩
  | .hbm, ⟨36, _⟩ => ⟨S4x512x5120, .bf16⟩
  | .hbm, ⟨37, _⟩ => ⟨S17408x5120, .f32⟩
  | .hbm, ⟨38, _⟩ => ⟨S_, .f32⟩
  | .hbm, ⟨39, _⟩ => ⟨S17408x5120, .f32⟩
  | .hbm, ⟨40, _⟩ => ⟨S17408x5120, .f32⟩
  | .hbm, ⟨41, _⟩ => ⟨S17408x5120, .f32⟩
  | .local _ .vmem, ⟨0, _⟩ => ⟨S4x512x17408, .f32⟩
  | .local _ .vmem, ⟨1, _⟩ => ⟨S4x512x5120, .fp8e4m3⟩
  | .local _ .vmem, ⟨2, _⟩ => ⟨S17408x5120, .fp8e4m3⟩
  | .local _ .vmem, ⟨3, _⟩ => ⟨S4x512x17408, .fp8e5m2⟩
  | .local _ .vmem, ⟨4, _⟩ => ⟨S4x512x17408, .bf16⟩
  | .local _ .vmem, ⟨5, _⟩ => ⟨S4x512x5120, .bf16⟩
  | .local _ .vmem, ⟨6, _⟩ => ⟨S17408x5120, .bf16⟩
  | _, _ => ⟨S4x512x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x512x17408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17408x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x17408 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x17408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S17408x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.DgradPoints.lean ====
/- The first pallas_call (`cc0_dgrad`): its points, the cases of its body's three conditionals in closed form over
   the points, where its outputs are idle, and its staging and scratch buffers by name. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- membership in a rectangle of large extents recurses once per coordinate of the long axes
set_option maxRecDepth 16384

noncomputable section

namespace Cert.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t` of the first call, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input windows' current staging buffers hold their blocks at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the scales. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the gradient block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same for the weight block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 34) — by arithmetic of the point. -/
theorem hcond0_0 : ∀ t : Fin cfg0.N, cond0_0 (grid0.coords t) ↔ t.val % 34 = 0 :=
  (fun t => by
    have ht : t.val < 68 := Nat.lt_of_lt_of_eq t.isLt N_0
    have e0 : (grid0.coords t 0).val = t.val / 34 % 2 := Pipeline.Grid.coords_val t 0 (by decide) rfl
    have e1 : (grid0.coords t 1).val = t.val / 1 % 34 := Pipeline.Grid.coords_val t 1 (by decide) rfl
    simp only [cond0_0, e0, e1]
    word_cmp
   : ∀ t : Fin grid0.N, cond0_0 (grid0.coords t) ↔ t.val % 34 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_1 : ∀ t : Fin cfg0.N, cond0_1 (grid0.coords t) ↔ t.val % 68 = 0 :=
  (fun t => by
    have ht : t.val < 68 := Nat.lt_of_lt_of_eq t.isLt N_0
    have e0 : (grid0.coords t 0).val = t.val / 34 % 2 := Pipeline.Grid.coords_val t 0 (by decide) rfl
    have e1 : (grid0.coords t 1).val = t.val / 1 % 34 := Pipeline.Grid.coords_val t 1 (by decide) rfl
    simp only [cond0_1, e0, e1]
    word_cmp
   : ∀ t : Fin grid0.N, cond0_1 (grid0.coords t) ↔ t.val % 68 = 0)

/-- The condition of the body's `scf.if` 2 (`k0_h3`), from the grid coordinates (the skeleton's scalar
    chain substituted). -/
abbrev cond0_2 (i : grid0.Coords) : Prop := k0_cond3 i = 1#1
/-- It holds at the points ≡ 33 (mod 34) — by arithmetic of the point. -/
theorem hcond0_2 : ∀ t : Fin cfg0.N, cond0_2 (grid0.coords t) ↔ t.val % 34 = 33 :=
  (fun t => by
    have ht : t.val < 68 := Nat.lt_of_lt_of_eq t.isLt N_0
    have e0 : (grid0.coords t 0).val = t.val / 34 % 2 := Pipeline.Grid.coords_val t 0 (by decide) rfl
    have e1 : (grid0.coords t 1).val = t.val / 1 % 34 := Pipeline.Grid.coords_val t 1 (by decide) rfl
    simp only [cond0_2, k0_cond3, e0, e1]
    word_cmp
   : ∀ t : Fin grid0.N, cond0_2 (grid0.coords t) ↔ t.val % 34 = 33)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 5 is never idle (an output stored at every point, under no condition). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- At the points of case A the printed configuration (`Cfg.idle`) calls output 4 idle: the case stores nothing into it. -/
theorem idleAt0_4_A : ∀ t : Fin cfg0.N, cond0_0 (grid0.coords t) → cond0_1 (grid0.coords t) → ¬cond0_2 (grid0.coords t) → cfg0.idle 4 (grid0.coords t) = true := by decide +kernel
/-- At the points of case A the pipeline does not write output 4's block back. -/
theorem noFlush0_4_A : ∀ t : Fin cfg0.N, cond0_0 (grid0.coords t) → cond0_1 (grid0.coords t) → ¬cond0_2 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → ¬cond0_2 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → ¬cond0_2 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → ¬cond0_1 (grid0.coords t) → cond0_2 (grid0.coords t) → cfg0.idle 4 (grid0.coords t) = false := by decide +kernel
/-- At the points of case D the printed configuration (`Cfg.idle`) calls output 4 idle: the case stores nothing into it. -/
theorem idleAt0_4_D : ∀ t : Fin cfg0.N, cond0_0 (grid0.coords t) → ¬cond0_1 (grid0.coords t) → ¬cond0_2 (grid0.coords t) → cfg0.idle 4 (grid0.coords t) = true := by decide +kernel
/-- At the points of case D the pipeline does not write output 4's block back. -/
theorem noFlush0_4_D : ∀ t : Fin cfg0.N, cond0_0 (grid0.coords t) → ¬cond0_1 (grid0.coords t) → ¬cond0_2 (grid0.coords t) → (cfg0.win 4).flush t = false := by decide +kernel

/-! ## The kernel body on any staging memrefs: a subtype the run finds -/

/-- One staging buffer of output window 4, through which its contents are stated (`View.read_writes_of_cover`: the
    choice does not matter). -/
abbrev VO0_4 : View sig .tc .vmem S4x512x2560 .bf16 := (Memref.whole cc0_stg4_0 : Memref sig .tc .vmem S4x512x2560 .bf16).view
/-- One staging buffer of output window 5, through which its contents are stated (`View.read_writes_of_cover`: the
    choice does not matter). -/
abbrev VO0_5 : View sig .tc .vmem S8x128 .f32 := (Memref.whole cc0_stg5_0 : Memref sig .tc .vmem S8x128 .f32).view
/-- One staging buffer of output window 6, through which its contents are stated (`View.read_writes_of_cover`: the
    choice does not matter). -/
abbrev VO0_6 : View sig .tc .vmem S4x512x512 .fp8e5m2 := (Memref.whole cc0_stg6_0 : Memref sig .tc .vmem S4x512x512 .fp8e5m2).view
/-- Each window's current staging memref at point `t`, spelled as the pipeline passes it (`bodyAt0`), and its wholeness. -/
abbrev ms0_0 (t : Fin cfg0.N) : Memref sig .tc .smem S4 .i32 := win0_0.stage (cfg0.slots t 0)
/-- The buffer of window 0 is a whole one. -/
abbrev hs0_0 (t : Fin cfg0.N) : (ms0_0 t).IsWhole := hstage0_0 ((cfg0.slots t 0).cast nbuf0_0)
/-- The buffer of window 1 at point `t`. -/
abbrev ms0_1 (t : Fin cfg0.N) : Memref sig .tc .smem S3 .f32 := win0_1.stage (cfg0.slots t 1)
/-- The buffer of window 1 is a whole one. -/
abbrev hs0_1 (t : Fin cfg0.N) : (ms0_1 t).IsWhole := hstage0_1 ((cfg0.slots t 1).cast nbuf0_1)
/-- The buffer of window 2 at point `t`. -/
abbrev ms0_2 (t : Fin cfg0.N) : Memref sig .tc .vmem S4x512x512 .bf16 := win0_2.stage (cfg0.slots t 2)
/-- The buffer of window 2 is a whole one. -/
abbrev hs0_2 (t : Fin cfg0.N) : (ms0_2 t).IsWhole := hstage0_2 ((cfg0.slots t 2).cast nbuf0_2)
/-- The buffer of window 3 at point `t`. -/
abbrev ms0_3 (t : Fin cfg0.N) : Memref sig .tc .vmem S512x2560 .fp8e4m3 := win0_3.stage (cfg0.slots t 3)
/-- The buffer of window 3 is a whole one. -/
abbrev hs0_3 (t : Fin cfg0.N) : (ms0_3 t).IsWhole := hstage0_3 ((cfg0.slots t 3).cast nbuf0_3)
/-- The buffer of window 4 at point `t`. -/
abbrev ms0_4 (t : Fin cfg0.N) : Memref sig .tc .vmem S4x512x2560 .bf16 := win0_4.stage (cfg0.slots t 4)
/-- The buffer of window 4 is a whole one. -/
abbrev hs0_4 (t : Fin cfg0.N) : (ms0_4 t).IsWhole := hstage0_4 ((cfg0.slots t 4).cast nbuf0_4)
/-- The buffer of window 5 at point `t`. -/
abbrev ms0_5 (t : Fin cfg0.N) : Memref sig .tc .vmem S8x128 .f32 := win0_5.stage (cfg0.slots t 5)
/-- The buffer of window 5 is a whole one. -/
abbrev hs0_5 (t : Fin cfg0.N) : (ms0_5 t).IsWhole := hstage0_5 ((cfg0.slots t 5).cast nbuf0_5)
/-- The buffer of window 6 at point `t`. -/
abbrev ms0_6 (t : Fin cfg0.N) : Memref sig .tc .vmem S4x512x512 .fp8e5m2 := win0_6.stage (cfg0.slots t 6)
/-- The buffer of window 6 is a whole one. -/
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S4x512x2560 .f32 := Memref.whole cc0_scratch0
/-- The scratch `arg9` the kernel carries between points, as a view: what it holds is stated through it. -/
abbrev VS0_0 : View sig .tc .vmem S4x512x2560 .f32 := scM0_0.view

/-- What the call may use beside its windows, with the accumulator taken out: the accumulator at some contents, and the
    rest (the other call's buffers and the generator register) unopened. -/
abbrev Rest0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- What the call may use beside its windows is the accumulator at some contents, and the rest. -/
theorem PhiA0_eq (c : Dev nD) :
    (Pipeline.ΦA spec0 c : sProp 𝕄) = iprop((∃ d, owns (c : Thread nD τ) scM0_0 fullShare d) ∗ Rest0 c) := by
  unfold Pipeline.ΦA Rest0
  rw [Pipeline.scopedRest_split_of_list spec0 c [cc0_scratch0] (by decide +kernel) (by decide)]
  simp only [scM0_0, owns_whole]
  exact equiv_iff.mp ⟨BI.sep_assoc, BI.sep_assoc'⟩

end Cert.Calls

end
-- ==== Proof.DgradRunA.lean ====
/- The body of the first pallas_call, run at the first point: what each of its stores leaves, as a list of
   pieces that the run finds, with the proof that the body runs to them. -/
module

public import proofs.«01_k».proof.Proof.DgradPoints

@[expose] public section

-- membership in a rectangle of large extents recurses once per coordinate of the long axes
set_option maxRecDepth 16384

noncomputable section

namespace Cert.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S4 .i32) (harg2 : arg2.IsWhole) (arg3 : Memref sig .tc .smem S3 .f32) (harg3 : arg3.IsWhole) (arg4 : Memref sig .tc .vmem S4x512x512 .bf16) (harg4 : arg4.IsWhole) (arg5 : Memref sig .tc .vmem S512x2560 .fp8e4m3) (harg5 : arg5.IsWhole) (arg6 : Memref sig .tc .vmem S4x512x2560 .bf16) (harg6 : arg6.IsWhole) (arg7 : Memref sig .tc .vmem S8x128 .f32) (harg7 : arg7.IsWhole) (arg8 : Memref sig .tc .vmem S4x512x512 .fp8e5m2) (harg8 : arg8.IsWhole) (arg9 : Memref sig .tc .vmem S4x512x2560 .f32) (harg9 : arg9.IsWhole) (hc0 : cond0_0 i) (hc1 : cond0_1 i) (hc2 : ¬cond0_2 i)
    (x0 : Vec F S4 .i32) (x1 : Vec F S3 .f32) (x2 : Vec F S4x512x512 .bf16) (x3 : Vec F S512x2560 .fp8e4m3) :
    Σ' (L4 : List (View.Piece (Elt F) S4x512x2560 .bf16)), Σ' (L5 : List (View.Piece (Elt F) S8x128 .f32)), Σ' (L6 : List (View.Piece (Elt F) S4x512x512 .fp8e5m2)), { LS0 : List (View.Piece (Elt F) S4x512x2560 .f32) //
      ∀ (xi4 : Vec F S4x512x2560 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_dgrad i arg2 harg2 arg3 harg3 arg4 harg4 arg5 harg5 arg6 harg6 arg7 harg7 arg8 harg8 arg9 harg9) K } := by
  refine ⟨[], ?_, ?_, ?_, fun xi4 E K => ?run⟩
  case run =>
    simp only [cc0_dgrad_eq_skeleton]; unfold cc0_dgrad_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Calls

end
-- ==== Proof.DgradRunB.lean ====
/- The body of the first pallas_call, run at the points that neither start nor end a sum: what each of its stores leaves, as a list of
   pieces that the run finds, with the proof that the body runs to them. -/
module

public import proofs.«01_k».proof.Proof.DgradRunA

@[expose] public section

-- membership in a rectangle of large extents recurses once per coordinate of the long axes
set_option maxRecDepth 16384

noncomputable section

namespace Cert.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 not taken: points 1, 2, … 66: 64 of 68), WITH the
    proof that on whole staging memrefs — the inputs' at their contents, the outputs it reads before covering (5) at their running contents `xo·`, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S4 .i32) (harg2 : arg2.IsWhole) (arg3 : Memref sig .tc .smem S3 .f32) (harg3 : arg3.IsWhole) (arg4 : Memref sig .tc .vmem S4x512x512 .bf16) (harg4 : arg4.IsWhole) (arg5 : Memref sig .tc .vmem S512x2560 .fp8e4m3) (harg5 : arg5.IsWhole) (arg6 : Memref sig .tc .vmem S4x512x2560 .bf16) (harg6 : arg6.IsWhole) (arg7 : Memref sig .tc .vmem S8x128 .f32) (harg7 : arg7.IsWhole) (arg8 : Memref sig .tc .vmem S4x512x512 .fp8e5m2) (harg8 : arg8.IsWhole) (arg9 : Memref sig .tc .vmem S4x512x2560 .f32) (harg9 : arg9.IsWhole) (hc0 : ¬cond0_0 i) (hc1 : ¬cond0_1 i) (hc2 : ¬cond0_2 i)
    (x0 : Vec F S4 .i32) (x1 : Vec F S3 .f32) (x2 : Vec F S4x512x512 .bf16) (x3 : Vec F S512x2560 .fp8e4m3) (xo5 : Vec F S8x128 .f32) (xs0 : Vec F S4x512x2560 .f32) :
    Σ' (L4 : List (View.Piece (Elt F) S4x512x2560 .bf16)), Σ' (L5 : List (View.Piece (Elt F) S8x128 .f32)), Σ' (L6 : List (View.Piece (Elt F) S4x512x512 .fp8e5m2)), { LS0 : List (View.Piece (Elt F) S4x512x2560 .f32) //
      ∀ (xi4 : Vec F S4x512x2560 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xo5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_dgrad i arg2 harg2 arg3 harg3 arg4 harg4 arg5 harg5 arg6 harg6 arg7 harg7 arg8 harg8 arg9 harg9) K } := by
  refine ⟨[], ?_, ?_, ?_, fun xi4 E K => ?run⟩
  case run =>
    simp only [cc0_dgrad_eq_skeleton]; unfold cc0_dgrad_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Calls

end
-- ==== Proof.DgradRunC.lean ====
/- The body of the first pallas_call, run at the points that end a sum (t ≡ 33 mod 34): what each of its stores leaves, as a list of
   pieces that the run finds, with the proof that the body runs to them. -/
module

public import proofs.«01_k».proof.Proof.DgradRunB

@[expose] public section

-- membership in a rectangle of large extents recurses once per coordinate of the long axes
set_option maxRecDepth 16384

noncomputable section

namespace Cert.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 33, 67), WITH the
    proof that on whole staging memrefs — the inputs' at their contents, the outputs it reads before covering (5) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S4 .i32) (harg2 : arg2.IsWhole) (arg3 : Memref sig .tc .smem S3 .f32) (harg3 : arg3.IsWhole) (arg4 : Memref sig .tc .vmem S4x512x512 .bf16) (harg4 : arg4.IsWhole) (arg5 : Memref sig .tc .vmem S512x2560 .fp8e4m3) (harg5 : arg5.IsWhole) (arg6 : Memref sig .tc .vmem S4x512x2560 .bf16) (harg6 : arg6.IsWhole) (arg7 : Memref sig .tc .vmem S8x128 .f32) (harg7 : arg7.IsWhole) (arg8 : Memref sig .tc .vmem S4x512x512 .fp8e5m2) (harg8 : arg8.IsWhole) (arg9 : Memref sig .tc .vmem S4x512x2560 .f32) (harg9 : arg9.IsWhole) (hc0 : ¬cond0_0 i) (hc1 : ¬cond0_1 i) (hc2 : cond0_2 i)
    (x0 : Vec F S4 .i32) (x1 : Vec F S3 .f32) (x2 : Vec F S4x512x512 .bf16) (x3 : Vec F S512x2560 .fp8e4m3) (xo5 : Vec F S8x128 .f32) (xs0 : Vec F S4x512x2560 .f32) :
    Σ' (L4 : List (View.Piece (Elt F) S4x512x2560 .bf16)), Σ' (L5 : List (View.Piece (Elt F) S8x128 .f32)), Σ' (L6 : List (View.Piece (Elt F) S4x512x512 .fp8e5m2)), { LS0 : List (View.Piece (Elt F) S4x512x2560 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_dgrad i arg2 harg2 arg3 harg3 arg4 harg4 arg5 harg5 arg6 harg6 arg7 harg7 arg8 harg8 arg9 harg9) K } := by
  refine ⟨?_, ?_, ?_, ?_, fun E K => ?run⟩
  case run =>
    simp only [cc0_dgrad_eq_skeleton]; unfold cc0_dgrad_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg9.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS0

end Cert.Calls

end
-- ==== Proof.DgradRunD.lean ====
/- The body of the first pallas_call, run at the point that starts the second sum (t = 34): what each of its stores leaves, as a list of
   pieces that the run finds, with the proof that the body runs to them. -/
module

public import proofs.«01_k».proof.Proof.DgradRunC

@[expose] public section

-- membership in a rectangle of large extents recurses once per coordinate of the long axes
set_option maxRecDepth 16384

noncomputable section

namespace Cert.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- (the run's proof term is large: the definition's epilogue — `abstractNestedProofs` — walks it past the default budget)
set_option maxHeartbeats 1000000 in
/-- What the body's stores leave in each output's staging memref, as pieces (last first) IN CASE D (`scf.if` 0 taken, `scf.if` 1 not taken, `scf.if` 2 not taken: points 34), WITH the
    proof that on whole staging memrefs — the inputs' at their contents, the outputs it reads before covering (5) at their running contents `xo·`, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .smem S4 .i32) (harg2 : arg2.IsWhole) (arg3 : Memref sig .tc .smem S3 .f32) (harg3 : arg3.IsWhole) (arg4 : Memref sig .tc .vmem S4x512x512 .bf16) (harg4 : arg4.IsWhole) (arg5 : Memref sig .tc .vmem S512x2560 .fp8e4m3) (harg5 : arg5.IsWhole) (arg6 : Memref sig .tc .vmem S4x512x2560 .bf16) (harg6 : arg6.IsWhole) (arg7 : Memref sig .tc .vmem S8x128 .f32) (harg7 : arg7.IsWhole) (arg8 : Memref sig .tc .vmem S4x512x512 .fp8e5m2) (harg8 : arg8.IsWhole) (arg9 : Memref sig .tc .vmem S4x512x2560 .f32) (harg9 : arg9.IsWhole) (hc0 : cond0_0 i) (hc1 : ¬cond0_1 i) (hc2 : ¬cond0_2 i)
    (x0 : Vec F S4 .i32) (x1 : Vec F S3 .f32) (x2 : Vec F S4x512x512 .bf16) (x3 : Vec F S512x2560 .fp8e4m3) (xo5 : Vec F S8x128 .f32) :
    Σ' (L4 : List (View.Piece (Elt F) S4x512x2560 .bf16)), Σ' (L5 : List (View.Piece (Elt F) S8x128 .f32)), Σ' (L6 : List (View.Piece (Elt F) S4x512x512 .fp8e5m2)), { LS0 : List (View.Piece (Elt F) S4x512x2560 .f32) //
      ∀ (xi4 : Vec F S4x512x2560 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xo5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_dgrad i arg2 harg2 arg3 harg3 arg4 harg4 arg5 harg5 arg6 harg6 arg7 harg7 arg8 harg8 arg9 harg9) K } := by
  refine ⟨[], ?_, ?_, ?_, fun xi4 E K => ?run⟩
  case run =>
    simp only [cc0_dgrad_eq_skeleton]; unfold cc0_dgrad_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Calls

end
-- ==== Proof.DgradBody.lean ====
/- The first pallas_call (`cc0_dgrad`): what its buffers hold point by point, and its body's obligation to the pipeline.
   The contents after a point are one step (`step0`) from the contents after the point before; the step is the case's run. -/
module

public import proofs.«01_k».proof.Proof.DgradRunD

@[expose] public section

-- membership in a rectangle of large extents recurses once per coordinate of the long axes
set_option maxRecDepth 16384

noncomputable section

namespace Cert.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four cases at a point -/

variable (c : Dev nD) (t : Fin cfg0.N)

/-- The run at the first point. -/
abbrev runA (h0 : t.val % 34 = 0) (h1 : t.val % 68 = 0) (h2 : ¬t.val % 34 = 33) :=
  kernelRun0_A (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) ((hcond0_0 t).mpr h0) ((hcond0_1 t).mpr h1)
    (fun h => h2 ((hcond0_2 t).mp h)) (iblk0 V c 0 t) (iblk0 V c 1 t) (iblk0 V c 2 t) (iblk0 V c 3 t)
/-- The run at a point that neither starts nor ends a sum. -/
abbrev runB (h0 : ¬t.val % 34 = 0) (h1 : ¬t.val % 68 = 0) (h2 : ¬t.val % 34 = 33) (xo : Vec F S8x128 .f32) (xs : Vec F S4x512x2560 .f32) :=
  kernelRun0_B (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (fun h => h0 ((hcond0_0 t).mp h)) (fun h => h1 ((hcond0_1 t).mp h))
    (fun h => h2 ((hcond0_2 t).mp h)) (iblk0 V c 0 t) (iblk0 V c 1 t) (iblk0 V c 2 t) (iblk0 V c 3 t) xo xs
/-- The run at a point that ends a sum. -/
abbrev runC (h0 : ¬t.val % 34 = 0) (h1 : ¬t.val % 68 = 0) (h2 : t.val % 34 = 33) (xo : Vec F S8x128 .f32) (xs : Vec F S4x512x2560 .f32) :=
  kernelRun0_C (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (fun h => h0 ((hcond0_0 t).mp h)) (fun h => h1 ((hcond0_1 t).mp h))
    ((hcond0_2 t).mpr h2) (iblk0 V c 0 t) (iblk0 V c 1 t) (iblk0 V c 2 t) (iblk0 V c 3 t) xo xs
/-- The run at the point that starts the second sum. -/
abbrev runD (h0 : t.val % 34 = 0) (h1 : ¬t.val % 68 = 0) (h2 : ¬t.val % 34 = 33) (xo : Vec F S8x128 .f32) :=
  kernelRun0_D (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) ((hcond0_0 t).mpr h0) (fun h => h1 ((hcond0_1 t).mp h))
    (fun h => h2 ((hcond0_2 t).mp h)) (iblk0 V c 0 t) (iblk0 V c 1 t) (iblk0 V c 2 t) (iblk0 V c 3 t) xo

/-- What the buffers the call writes hold after a point: the gradient block, the running maxima, the code block and the
    accumulator. -/
structure Held0 (F : FTy → Type) where
  dx : Vec F S4x512x2560 .bf16
  amax : Vec F S8x128 .f32
  codes : Vec F S4x512x512 .fp8e5m2
  acc : Vec F S4x512x2560 .f32

/-- Lists of pieces for the four buffers, read back over arbitrary contents. -/
def readBack (L4 : List (View.Piece (Elt F) S4x512x2560 .bf16)) (L5 : List (View.Piece (Elt F) S8x128 .f32))
    (L6 : List (View.Piece (Elt F) S4x512x512 .fp8e5m2)) (LS : List (View.Piece (Elt F) S4x512x2560 .f32)) : Held0 F where
  dx := VO0_4.read (Elt F) (VO0_4.writes (Elt F) VO0_4.junk L4)
  amax := VO0_5.read (Elt F) (VO0_5.writes (Elt F) VO0_5.junk L5)
  codes := VO0_6.read (Elt F) (VO0_6.writes (Elt F) VO0_6.junk L6)
  acc := VS0_0.read (Elt F) (VS0_0.writes (Elt F) VS0_0.junk LS)

/-! ### In every case the pieces of the maxima, the codes and the accumulator cover their buffers; in case C those of the
gradient block do too -/

/-- At the first point of all the stores to the maxima cover its whole buffer. -/
theorem coverA_5 (h0 : t.val % 34 = 0) (h1 : t.val % 68 = 0) (h2 : ¬t.val % 34 = 33) (y : S8x128.Idx) :
    ∃ pc ∈ (runA V c t h0 h1 h2).2.1, y ∈ pc.1.set :=
  View.cover_of_tiledL (runA V c t h0 h1 h2).2.1 S8x128.size (by sl_kernel_rfl) y
/-- At the first point of all the stores to the codes cover its whole buffer. -/
theorem coverA_6 (h0 : t.val % 34 = 0) (h1 : t.val % 68 = 0) (h2 : ¬t.val % 34 = 33) (y : S4x512x512.Idx) :
    ∃ pc ∈ (runA V c t h0 h1 h2).2.2.1, y ∈ pc.1.set :=
  View.cover_of_tiledL (runA V c t h0 h1 h2).2.2.1 S1x512x512.size (by sl_kernel_rfl) y
/-- At the first point of all the stores to the accumulator cover its whole buffer. -/
theorem coverA_s (h0 : t.val % 34 = 0) (h1 : t.val % 68 = 0) (h2 : ¬t.val % 34 = 33) (y : S4x512x2560.Idx) :
    ∃ pc ∈ (runA V c t h0 h1 h2).2.2.2.1, y ∈ pc.1.set :=
  View.cover_of_wholeMem (runA V c t h0 h1 h2).2.2.2.1 (by sl_whole_mem) y
/-- At a point inside a half the stores to the maxima cover its whole buffer. -/
theorem coverB_5 (h0 : ¬t.val % 34 = 0) (h1 : ¬t.val % 68 = 0) (h2 : ¬t.val % 34 = 33) (xo : Vec F S8x128 .f32) (xs : Vec F S4x512x2560 .f32) (y : S8x128.Idx) :
    ∃ pc ∈ (runB V c t h0 h1 h2 xo xs).2.1, y ∈ pc.1.set :=
  View.cover_of_tiledL (runB V c t h0 h1 h2 xo xs).2.1 S8x128.size (by sl_kernel_rfl) y
/-- At a point inside a half the stores to the codes cover its whole buffer. -/
theorem coverB_6 (h0 : ¬t.val % 34 = 0) (h1 : ¬t.val % 68 = 0) (h2 : ¬t.val % 34 = 33) (xo : Vec F S8x128 .f32) (xs : Vec F S4x512x2560 .f32) (y : S4x512x512.Idx) :
    ∃ pc ∈ (runB V c t h0 h1 h2 xo xs).2.2.1, y ∈ pc.1.set :=
  View.cover_of_tiledL (runB V c t h0 h1 h2 xo xs).2.2.1 S1x512x512.size (by sl_kernel_rfl) y
/-- At a point inside a half the stores to the accumulator cover its whole buffer. -/
theorem coverB_s (h0 : ¬t.val % 34 = 0) (h1 : ¬t.val % 68 = 0) (h2 : ¬t.val % 34 = 33) (xo : Vec F S8x128 .f32) (xs : Vec F S4x512x2560 .f32) (y : S4x512x2560.Idx) :
    ∃ pc ∈ (runB V c t h0 h1 h2 xo xs).2.2.2.1, y ∈ pc.1.set :=
  View.cover_of_tiledL (runB V c t h0 h1 h2 xo xs).2.2.2.1 S1x512x2560.size (by sl_kernel_rfl) y
/-- At the last point of a half the stores to the gradient block cover its whole buffer. -/
theorem coverC_4 (h0 : ¬t.val % 34 = 0) (h1 : ¬t.val % 68 = 0) (h2 : t.val % 34 = 33) (xo : Vec F S8x128 .f32) (xs : Vec F S4x512x2560 .f32) (y : S4x512x2560.Idx) :
    ∃ pc ∈ (runC V c t h0 h1 h2 xo xs).1, y ∈ pc.1.set :=
  View.cover_of_tiledL (runC V c t h0 h1 h2 xo xs).1 S4x512x2560.size (by sl_kernel_rfl) y
/-- At the last point of a half the stores to the maxima cover its whole buffer. -/
theorem coverC_5 (h0 : ¬t.val % 34 = 0) (h1 : ¬t.val % 68 = 0) (h2 : t.val % 34 = 33) (xo : Vec F S8x128 .f32) (xs : Vec F S4x512x2560 .f32) (y : S8x128.Idx) :
    ∃ pc ∈ (runC V c t h0 h1 h2 xo xs).2.1, y ∈ pc.1.set :=
  View.cover_of_tiledL (runC V c t h0 h1 h2 xo xs).2.1 S8x128.size (by sl_kernel_rfl) y
/-- At the last point of a half the stores to the codes cover its whole buffer. -/
theorem coverC_6 (h0 : ¬t.val % 34 = 0) (h1 : ¬t.val % 68 = 0) (h2 : t.val % 34 = 33) (xo : Vec F S8x128 .f32) (xs : Vec F S4x512x2560 .f32) (y : S4x512x512.Idx) :
    ∃ pc ∈ (runC V c t h0 h1 h2 xo xs).2.2.1, y ∈ pc.1.set :=
  View.cover_of_tiledL (runC V c t h0 h1 h2 xo xs).2.2.1 S1x512x512.size (by sl_kernel_rfl) y
/-- At the last point of a half the stores to the accumulator cover its whole buffer. -/
theorem coverC_s (h0 : ¬t.val % 34 = 0) (h1 : ¬t.val % 68 = 0) (h2 : t.val % 34 = 33) (xo : Vec F S8x128 .f32) (xs : Vec F S4x512x2560 .f32) (y : S4x512x2560.Idx) :
    ∃ pc ∈ (runC V c t h0 h1 h2 xo xs).2.2.2.1, y ∈ pc.1.set :=
  View.cover_of_tiledL (runC V c t h0 h1 h2 xo xs).2.2.2.1 S1x512x2560.size (by sl_kernel_rfl) y
/-- At the first point of the second half the stores to the maxima cover its whole buffer. -/
theorem coverD_5 (h0 : t.val % 34 = 0) (h1 : ¬t.val % 68 = 0) (h2 : ¬t.val % 34 = 33) (xo : Vec F S8x128 .f32) (y : S8x128.Idx) :
    ∃ pc ∈ (runD V c t h0 h1 h2 xo).2.1, y ∈ pc.1.set :=
  View.cover_of_tiledL (runD V c t h0 h1 h2 xo).2.1 S8x128.size (by sl_kernel_rfl) y
/-- At the first point of the second half the stores to the codes cover its whole buffer. -/
theorem coverD_6 (h0 : t.val % 34 = 0) (h1 : ¬t.val % 68 = 0) (h2 : ¬t.val % 34 = 33) (xo : Vec F S8x128 .f32) (y : S4x512x512.Idx) :
    ∃ pc ∈ (runD V c t h0 h1 h2 xo).2.2.1, y ∈ pc.1.set :=
  View.cover_of_tiledL (runD V c t h0 h1 h2 xo).2.2.1 S1x512x512.size (by sl_kernel_rfl) y
/-- At the first point of the second half the stores to the accumulator cover its whole buffer. -/
theorem coverD_s (h0 : t.val % 34 = 0) (h1 : ¬t.val % 68 = 0) (h2 : ¬t.val % 34 = 33) (xo : Vec F S8x128 .f32) (y : S4x512x2560.Idx) :
    ∃ pc ∈ (runD V c t h0 h1 h2 xo).2.2.2.1, y ∈ pc.1.set :=
  View.cover_of_wholeMem (runD V c t h0 h1 h2 xo).2.2.2.1 (by sl_whole_mem) y

/-! ## The contents after each point -/

/-- One step: what the buffers hold after point `t` when `p` is what they held after the point before. -/
def step0 (p : Held0 F) : Held0 F :=
  if h0 : t.val % 34 = 0 then
    if h1 : t.val % 68 = 0 then
      readBack (runA V c t h0 h1 (by omega)).1 (runA V c t h0 h1 (by omega)).2.1 (runA V c t h0 h1 (by omega)).2.2.1 (runA V c t h0 h1 (by omega)).2.2.2.1
    else
      readBack (runD V c t h0 h1 (by omega) p.amax).1 (runD V c t h0 h1 (by omega) p.amax).2.1 (runD V c t h0 h1 (by omega) p.amax).2.2.1
        (runD V c t h0 h1 (by omega) p.amax).2.2.2.1
  else if h2 : t.val % 34 = 33 then
    readBack (runC V c t h0 (by omega) h2 p.amax p.acc).1 (runC V c t h0 (by omega) h2 p.amax p.acc).2.1
      (runC V c t h0 (by omega) h2 p.amax p.acc).2.2.1 (runC V c t h0 (by omega) h2 p.amax p.acc).2.2.2.1
  else
    readBack (runB V c t h0 (by omega) h2 p.amax p.acc).1 (runB V c t h0 (by omega) h2 p.amax p.acc).2.1
      (runB V c t h0 (by omega) h2 p.amax p.acc).2.2.1 (runB V c t h0 (by omega) h2 p.amax p.acc).2.2.2.1

/-- The contents after point `n`: the steps one after the other. -/
def heldAt0 (c : Dev nD) : (n : ℕ) → n < cfg0.N → Held0 F
  | 0, h => step0 V c ⟨0, h⟩ (readBack [] [] [] [])
  | n + 1, h => step0 V c ⟨n + 1, h⟩ (heldAt0 c n (Nat.lt_of_succ_lt h))

/-- What the buffers held before a point that is not the first. -/
abbrev prev0 : Held0 F := heldAt0 V c (t.val - 1) (Nat.lt_of_le_of_lt (Nat.sub_le _ _) t.isLt)

/-- After the first point the buffers hold what one step makes of nothing. -/
theorem heldAt0_zero (h : 0 < cfg0.N) : heldAt0 V c 0 h = step0 V c ⟨0, h⟩ (readBack [] [] [] []) := by rw [heldAt0]

/-- After a later point they hold what one step makes of the contents after the point before. -/
theorem heldAt0_succ (n : ℕ) (h : n + 1 < cfg0.N) :
    heldAt0 V c (n + 1) h = step0 V c ⟨n + 1, h⟩ (heldAt0 V c n (Nat.lt_of_succ_lt h)) := by rw [heldAt0]

/-- After any point they hold what one step makes of some contents. -/
theorem heldAt0_any : ∃ p, heldAt0 V c t.val t.isLt = step0 V c t p := by
  obtain ⟨n, hn⟩ := t
  cases n with
  | zero => exact ⟨_, heldAt0_zero V c hn⟩
  | succ n => exact ⟨_, heldAt0_succ V c n hn⟩

/-- After a point that is not the first they hold what one step makes of what was held before. -/
theorem heldAt0_step (hz : t.val ≠ 0) : heldAt0 V c t.val t.isLt = step0 V c t (prev0 V c t) := by
  obtain ⟨n, hn⟩ := t
  cases n with
  | zero => exact absurd rfl hz
  | succ n => exact heldAt0_succ V c n hn

/-- At the first point of all the buffers hold what that case of the body leaves. -/
theorem heldAt0_A (h0 : t.val % 34 = 0) (h1 : t.val % 68 = 0) (h2 : ¬t.val % 34 = 33) :
    heldAt0 V c t.val t.isLt = readBack (runA V c t h0 h1 h2).1 (runA V c t h0 h1 h2).2.1 (runA V c t h0 h1 h2).2.2.1 (runA V c t h0 h1 h2).2.2.2.1 := by
  obtain ⟨p, hp⟩ := heldAt0_any V c t
  rw [hp]; unfold step0; rw [dif_pos h0, dif_pos h1]

/-- At a point inside a half the buffers hold what that case of the body leaves. -/
theorem heldAt0_B (h0 : ¬t.val % 34 = 0) (h1 : ¬t.val % 68 = 0) (h2 : ¬t.val % 34 = 33) :
    heldAt0 V c t.val t.isLt = readBack (runB V c t h0 h1 h2 (prev0 V c t).amax (prev0 V c t).acc).1 (runB V c t h0 h1 h2 (prev0 V c t).amax (prev0 V c t).acc).2.1
      (runB V c t h0 h1 h2 (prev0 V c t).amax (prev0 V c t).acc).2.2.1 (runB V c t h0 h1 h2 (prev0 V c t).amax (prev0 V c t).acc).2.2.2.1 := by
  rw [heldAt0_step V c t (by omega)]; unfold step0; rw [dif_neg h0, dif_neg h2]

/-- At the last point of a half the buffers hold what that case of the body leaves. -/
theorem heldAt0_C (h0 : ¬t.val % 34 = 0) (h1 : ¬t.val % 68 = 0) (h2 : t.val % 34 = 33) :
    heldAt0 V c t.val t.isLt = readBack (runC V c t h0 h1 h2 (prev0 V c t).amax (prev0 V c t).acc).1 (runC V c t h0 h1 h2 (prev0 V c t).amax (prev0 V c t).acc).2.1
      (runC V c t h0 h1 h2 (prev0 V c t).amax (prev0 V c t).acc).2.2.1 (runC V c t h0 h1 h2 (prev0 V c t).amax (prev0 V c t).acc).2.2.2.1 := by
  rw [heldAt0_step V c t (by omega)]; unfold step0; rw [dif_neg h0, dif_pos h2]

/-- At the first point of the second half the buffers hold what that case of the body leaves. -/
theorem heldAt0_D (h0 : t.val % 34 = 0) (h1 : ¬t.val % 68 = 0) (h2 : ¬t.val % 34 = 33) :
    heldAt0 V c t.val t.isLt = readBack (runD V c t h0 h1 h2 (prev0 V c t).amax).1 (runD V c t h0 h1 h2 (prev0 V c t).amax).2.1
      (runD V c t h0 h1 h2 (prev0 V c t).amax).2.2.1 (runD V c t h0 h1 h2 (prev0 V c t).amax).2.2.2.1 := by
  rw [heldAt0_step V c t (by omega)]; unfold step0; rw [dif_pos h0, dif_neg h1]

/-! ## The invariant and the pipeline's proof data -/

/-- Before the first point the scratch is at anything; after point `n` the accumulator holds `heldAt0`'s. -/
def PhiS (c : Dev nD) : (n : ℕ) → n ≤ cfg0.N → sProp 𝕄
  | 0, _ => Pipeline.ΦA spec0 c
  | n + 1, hn => iprop(owns (c : Thread nD τ) scM0_0 fullShare (heldAt0 V c n hn).acc ∗ Rest0 c)

/-- Before the first point the invariant is that the scratch is at anything. -/
theorem PhiS_zero (n : ℕ) (h : n ≤ cfg0.N) (hz : n = 0) : PhiS V c n h = Pipeline.ΦA spec0 c := by
  subst hz; rfl

/-- After point `n` the invariant holds the accumulator at what that point left. -/
theorem PhiS_succ (n : ℕ) (hn : n < cfg0.N) :
    PhiS V c (n + 1) hn = iprop(owns (c : Thread nD τ) scM0_0 fullShare (heldAt0 V c n hn).acc ∗ Rest0 c) := rfl

/-- Before a point that is not the first the invariant holds the accumulator at what the point before left. -/
theorem PhiS_pos (n : ℕ) (h : n ≤ cfg0.N) (hz : n ≠ 0) :
    PhiS V c n h = iprop(owns (c : Thread nD τ) scM0_0 fullShare (heldAt0 V c (n - 1) (by omega)).acc ∗ Rest0 c) := by
  cases n with
  | zero => exact absurd rfl hz
  | succ n => rfl

/-- The first call's proof data: the arrays as the call finds them; after the body at point `t` each input's buffer at
    its block and the outputs' at `heldAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (heldAt0 V c t.val t.isLt).dx
    | ⟨5, _⟩ => (heldAt0 V c t.val t.isLt).amax
    | ⟨6, _⟩ => (heldAt0 V c t.val t.isLt).codes
  Φ t := PhiS V c t.val (Nat.le_of_lt_succ t.isLt)
  q _ := fullShare
  owed _ := 0

/-- The arrays of the proof data are the contents the call finds. -/
theorem A_eq0 (c : Dev nD) (w : Fin cfg0.W) : (dat0 V c).A w = V c (Pipeline.arrRef spec0 w) := by
  dsimp only [dat0]

/-- The invariant before point `t`, by its number. -/
theorem PhiS_castSucc : (dat0 V c).Φ t.castSucc = PhiS V c t.val (Nat.le_of_lt t.isLt) := by
  dsimp only [dat0]; exact Pipeline.Dat.Φ_castSucc (PhiS V c) t

/-- The body leaves the lengths as read. -/
theorem after0_0 : (dat0 V c).after 0 t = iblk0 V c 0 t := by dsimp only [dat0]
/-- The body leaves the scales as read. -/
theorem after0_1 : (dat0 V c).after 1 t = iblk0 V c 1 t := by dsimp only [dat0]
/-- The body leaves the gradient block as read. -/
theorem after0_2 : (dat0 V c).after 2 t = iblk0 V c 2 t := by dsimp only [dat0]
/-- The body leaves the weight block as read. -/
theorem after0_3 : (dat0 V c).after 3 t = iblk0 V c 3 t := by dsimp only [dat0]
/-- The body leaves the gradient block of `heldAt0`. -/
theorem after0_4 : (dat0 V c).after 4 t = (heldAt0 V c t.val t.isLt).dx := by dsimp only [dat0]
/-- The body leaves the maxima of `heldAt0`. -/
theorem after0_5 : (dat0 V c).after 5 t = (heldAt0 V c t.val t.isLt).amax := by dsimp only [dat0]
/-- The body leaves the codes of `heldAt0`. -/
theorem after0_6 : (dat0 V c).after 6 t = (heldAt0 V c t.val t.isLt).codes := by dsimp only [dat0]

/-- The body finds the lengths of its point. -/
theorem before0_0 (d) : (dat0 V c).before 0 t d = iblk0 V c 0 t := before0_0_of V (dat0 V c) (A_eq0 V c 0) (after0_0 V c) t d
/-- The body finds the scales of its point. -/
theorem before0_1 (d) : (dat0 V c).before 1 t d = iblk0 V c 1 t := before0_1_of V (dat0 V c) (A_eq0 V c 1) (after0_1 V c) t d
/-- The body finds the gradient block of its point. -/
theorem before0_2 (d) : (dat0 V c).before 2 t d = iblk0 V c 2 t := before0_2_of V (dat0 V c) (A_eq0 V c 2) (after0_2 V c) t d
/-- The body finds the weight block of its point. -/
theorem before0_3 (d) : (dat0 V c).before 3 t d = iblk0 V c 3 t := before0_3_of V (dat0 V c) (A_eq0 V c 3) (after0_3 V c) t d

/-- At a point that is not the first, the maxima's buffer holds what the point before left: it is written back at the
    last point only. -/
theorem before0_5 (hz : t.val ≠ 0) (d) : (dat0 V c).before 5 t d = (prev0 V c t).amax := by
  have hN : t.val < 68 := lt_of_lt_of_eq t.isLt (show cfg0.N = 68 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation -/

/-- What the body is called with at point `t`, the windows one by one, -/
def bodyPre0 : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

/-- After the body the buffer of the lengths is owned at that block. -/
theorem leaves0_0 : (dat0 V c).leavesExact 0 t = owns (c : Thread nD τ) (ms0_0 t) fullShare (iblk0 V c 0 t) := by
  rw [← after0_0]
/-- After the body the buffer of the scales is owned at that block. -/
theorem leaves0_1 : (dat0 V c).leavesExact 1 t = owns (c : Thread nD τ) (ms0_1 t) fullShare (iblk0 V c 1 t) := by
  rw [← after0_1]
/-- After the body the buffer of the gradient block is owned at that block. -/
theorem leaves0_2 : (dat0 V c).leavesExact 2 t = owns (c : Thread nD τ) (ms0_2 t) fullShare (iblk0 V c 2 t) := by
  rw [← after0_2]
/-- After the body the buffer of the weight block is owned at that block. -/
theorem leaves0_3 : (dat0 V c).leavesExact 3 t = owns (c : Thread nD τ) (ms0_3 t) fullShare (iblk0 V c 3 t) := by
  rw [← after0_3]
/-- After the body the buffer of the maxima is owned at what `heldAt0` says. -/
theorem leaves0_5 : (dat0 V c).leavesExact 5 t = owns (c : Thread nD τ) (ms0_5 t) fullShare (heldAt0 V c t.val t.isLt).amax := by
  rw [← after0_5]
/-- After the body the buffer of the codes is owned at what `heldAt0` says. -/
theorem leaves0_6 : (dat0 V c).leavesExact 6 t = owns (c : Thread nD τ) (ms0_6 t) fullShare (heldAt0 V c t.val t.isLt).codes := by
  rw [← after0_6]

set_option maxHeartbeats 3200000 in
/-- The body at the first point. -/
theorem sound_body0_A (h0 : t.val % 34 = 0) (h1 : t.val % 68 = 0) (h2 : ¬t.val % 34 = 33) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, leaves0_0, leaves0_1, leaves0_2, leaves0_3, leaves0_5, leaves0_6]
  rw [show (dat0 V c).owesAt () t.succ = (dat0 V c).owesAt () t.castSucc from rfl]
  rw [show (dat0 V c).Φ t.succ = PhiS V c (t.val + 1) t.isLt from rfl, PhiS_succ]
  have hN : t.val < 68 := lt_of_lt_of_eq t.isLt (show cfg0.N = 68 from N_0)
  rw [Dat.leavesExact_idle (dat0 V c) 4 t (idleAt0_4_A t ((hcond0_0 t).mpr h0) ((hcond0_1 t).mpr h1) (fun h => h2 ((hcond0_2 t).mp h))) (noFlush0_4_A t ((hcond0_0 t).mpr h0) ((hcond0_1 t).mpr h1) (fun h => h2 ((hcond0_2 t).mp h)))]
  rw [PhiS_castSucc V c t, PhiS_zero V c _ _ (by omega), PhiA0_eq]
  rw [heldAt0_A V c t h0 h1 h2]
  unfold readBack; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((runA V c t h0 h1 h2).2.2.2.2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%es0, HS0⟩⟩
  isplitl [HS0 Hg]
  · isplitl [HS0]
    · unfold owns; iexists _; isplitr
      swap; · iexact HS0
      ipureintro; exact View.read_writes_of_cover _ _ _ _ _ (coverA_s V c t h0 h1 h2)
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]
  · unfold owns; iexists _; isplitr
    swap; · iexact H5
    ipureintro; exact View.read_writes_of_cover _ _ _ _ _ (coverA_5 V c t h0 h1 h2)
  unfold owns; iexists _; isplitr
  swap; · iexact H6
  ipureintro; exact View.read_writes_of_cover _ _ _ _ _ (coverA_6 V c t h0 h1 h2)

set_option maxHeartbeats 3200000 in
/-- The body at a point that neither starts nor ends a sum. -/
theorem sound_body0_B (h0 : ¬t.val % 34 = 0) (h1 : ¬t.val % 68 = 0) (h2 : ¬t.val % 34 = 33) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, leaves0_0, leaves0_1, leaves0_2, leaves0_3, leaves0_5, leaves0_6]
  rw [show (dat0 V c).owesAt () t.succ = (dat0 V c).owesAt () t.castSucc from rfl]
  rw [show (dat0 V c).Φ t.succ = PhiS V c (t.val + 1) t.isLt from rfl, PhiS_succ]
  have hN : t.val < 68 := lt_of_lt_of_eq t.isLt (show cfg0.N = 68 from N_0)
  rw [Dat.leavesExact_idle (dat0 V c) 4 t (idleAt0_4_B t (fun h => h0 ((hcond0_0 t).mp h)) (fun h => h1 ((hcond0_1 t).mp h)) (fun h => h2 ((hcond0_2 t).mp h))) (noFlush0_4_B t (fun h => h0 ((hcond0_0 t).mp h)) (fun h => h1 ((hcond0_1 t).mp h)) (fun h => h2 ((hcond0_2 t).mp h)))]
  rw [PhiS_castSucc V c t, PhiS_pos V c _ _ (by omega)]
  simp only [before0_5 V c t (by omega)]
  rw [heldAt0_B V c t h0 h1 h2]
  unfold readBack; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((runB V c t h0 h1 h2 (prev0 V c t).amax (prev0 V c t).acc).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, ⟨%e5, H5⟩, ⟨%e6, H6⟩, ⟨%es0, HS0⟩⟩
  isplitl [HS0 Hg]
  · isplitl [HS0]
    · unfold owns; iexists _; isplitr
      swap; · iexact HS0
      ipureintro; exact View.read_writes_of_cover _ _ _ _ _ (coverB_s V c t h0 h1 h2 (prev0 V c t).amax (prev0 V c t).acc)
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]
  · unfold owns; iexists _; isplitr
    swap; · iexact H5
    ipureintro; exact View.read_writes_of_cover _ _ _ _ _ (coverB_5 V c t h0 h1 h2 (prev0 V c t).amax (prev0 V c t).acc)
  unfold owns; iexists _; isplitr
  swap; · iexact H6
  ipureintro; exact View.read_writes_of_cover _ _ _ _ _ (coverB_6 V c t h0 h1 h2 (prev0 V c t).amax (prev0 V c t).acc)

set_option maxHeartbeats 3200000 in
/-- The body at a point that ends a sum. -/
theorem sound_body0_C (h0 : ¬t.val % 34 = 0) (h1 : ¬t.val % 68 = 0) (h2 : t.val % 34 = 33) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, leaves0_0, leaves0_1, leaves0_2, leaves0_3, leaves0_5, leaves0_6]
  rw [show (dat0 V c).owesAt () t.succ = (dat0 V c).owesAt () t.castSucc from rfl]
  rw [show (dat0 V c).Φ t.succ = PhiS V c (t.val + 1) t.isLt from rfl, PhiS_succ]
  have hN : t.val < 68 := lt_of_lt_of_eq t.isLt (show cfg0.N = 68 from N_0)
  rw [show (dat0 V c).leavesExact 4 t = owns (c : Thread nD τ) (ms0_4 t) fullShare ((dat0 V c).after 4 t) from by
    unfold Dat.leavesExact; rw [liveAt0_4_C t (fun h => h0 ((hcond0_0 t).mp h)) (fun h => h1 ((hcond0_1 t).mp h)) ((hcond0_2 t).mpr h2)], after0_4]
  rw [PhiS_castSucc V c t, PhiS_pos V c _ _ (by omega)]
  simp only [before0_5 V c t (by omega)]
  rw [heldAt0_C V c t h0 h1 h2]
  unfold readBack; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((runC V c t h0 h1 h2 (prev0 V c t).amax (prev0 V c t).acc).2.2.2.2 Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [HS0]; · iexact HS0
  iintro ⟨H0, H1, H2, H3, ⟨%e4, H4⟩, ⟨%e5, H5⟩, ⟨%e6, H6⟩, ⟨%es0, HS0⟩⟩
  isplitl [HS0 Hg]
  · isplitl [HS0]
    · unfold owns; iexists _; isplitr
      swap; · iexact HS0
      ipureintro; exact View.read_writes_of_cover _ _ _ _ _ (coverC_s V c t h0 h1 h2 (prev0 V c t).amax (prev0 V c t).acc)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverC_4 V c t h0 h1 h2 (prev0 V c t).amax (prev0 V c t).acc)
  isplitl [H5]
  · unfold owns; iexists _; isplitr
    swap; · iexact H5
    ipureintro; exact View.read_writes_of_cover _ _ _ _ _ (coverC_5 V c t h0 h1 h2 (prev0 V c t).amax (prev0 V c t).acc)
  unfold owns; iexists _; isplitr
  swap; · iexact H6
  ipureintro; exact View.read_writes_of_cover _ _ _ _ _ (coverC_6 V c t h0 h1 h2 (prev0 V c t).amax (prev0 V c t).acc)

set_option maxHeartbeats 3200000 in
/-- The body at the point that starts the second sum. -/
theorem sound_body0_D (h0 : t.val % 34 = 0) (h1 : ¬t.val % 68 = 0) (h2 : ¬t.val % 34 = 33) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, leaves0_0, leaves0_1, leaves0_2, leaves0_3, leaves0_5, leaves0_6]
  rw [show (dat0 V c).owesAt () t.succ = (dat0 V c).owesAt () t.castSucc from rfl]
  rw [show (dat0 V c).Φ t.succ = PhiS V c (t.val + 1) t.isLt from rfl, PhiS_succ]
  have hN : t.val < 68 := lt_of_lt_of_eq t.isLt (show cfg0.N = 68 from N_0)
  rw [Dat.leavesExact_idle (dat0 V c) 4 t (idleAt0_4_D t ((hcond0_0 t).mpr h0) (fun h => h1 ((hcond0_1 t).mp h)) (fun h => h2 ((hcond0_2 t).mp h))) (noFlush0_4_D t ((hcond0_0 t).mpr h0) (fun h => h1 ((hcond0_1 t).mp h)) (fun h => h2 ((hcond0_2 t).mp h)))]
  rw [PhiS_castSucc V c t, PhiS_pos V c _ _ (by omega)]
  simp only [before0_5 V c t (by omega)]
  rw [heldAt0_D V c t h0 h1 h2]
  unfold readBack; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((runD V c t h0 h1 h2 (prev0 V c t).amax).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexists _; iexact HS0
  iintro ⟨H0, H1, H2, H3, H4, ⟨%e5, H5⟩, ⟨%e6, H6⟩, ⟨%es0, HS0⟩⟩
  isplitl [HS0 Hg]
  · isplitl [HS0]
    · unfold owns; iexists _; isplitr
      swap; · iexact HS0
      ipureintro; exact View.read_writes_of_cover _ _ _ _ _ (coverD_s V c t h0 h1 h2 (prev0 V c t).amax)
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]
  · unfold owns; iexists _; isplitr
    swap; · iexact H5
    ipureintro; exact View.read_writes_of_cover _ _ _ _ _ (coverD_5 V c t h0 h1 h2 (prev0 V c t).amax)
  unfold owns; iexists _; isplitr
  swap; · iexact H6
  ipureintro; exact View.read_writes_of_cover _ _ _ _ _ (coverD_6 V c t h0 h1 h2 (prev0 V c t).amax)

/-- The body at any point. -/
theorem sound_body0 :
    bodyPre0 V c t ⊢ wp frame (wpE (defs₀ (F := F)) Variants.none c none) Set.univ (bodyAt0 t) (fun _ => bodyPost0 V c t) := by
  by_cases h0 : t.val % 34 = 0
  · by_cases h1 : t.val % 68 = 0
    · exact sound_body0_A V c t h0 h1 (by omega)
    · exact sound_body0_D V c t h0 h1 (by omega)
  · by_cases h2 : t.val % 34 = 33
    · exact sound_body0_C V c t h0 (by omega) h2
    · exact sound_body0_B V c t h0 (by omega) h2

/-- The body table's row at point `t`'s slots is the body as `bodyAt0` spells it. -/
theorem defs₀_row0 : defs₀ (F := F) .tc cfg0.body (cfg0.bodyArgs t (cfg0.slots t)) = bodyAt0 t := by
  unfold defs₀; rw [Defs.onTc_tc]

/-- The body's obligation to the pipeline, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- After the last point the accumulator's contents are forgotten. -/
theorem Phi_out0 (c : Dev nD) : (dat0 V c).Φ (Fin.last cfg0.N) ⊢ Pipeline.ΦA spec0 c := by
  have hN : cfg0.N = 68 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨HS0, Hg⟩
  isplitl [HS0]
  · iexists _; iexact HS0
  iexact Hg

end Cert.Calls

end
-- ==== Proof.WgradBody.lean ====
/- The second pallas_call (`cc1_wgrad`): its body's run, what it leaves in its output block at each point, and the
   body's obligation to the pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- membership in a rectangle of large extents recurses once per coordinate of the long axes
set_option maxRecDepth 16384

noncomputable section

namespace Cert.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S512x1280 .f32 := (Memref.whole cc1_stg4_0 : Memref sig .tc .vmem S512x1280 .f32).view
/-- Each window's current staging memref at point `t`, spelled as the pipeline passes it (`bodyAt1`), and its wholeness. -/
abbrev ms1_0 (t : Fin cfg1.N) : Memref sig .tc .smem S3 .f32 := win1_0.stage (cfg1.slots t 0)
/-- The buffer of window 0 is a whole one. -/
abbrev hs1_0 (t : Fin cfg1.N) : (ms1_0 t).IsWhole := hstage1_0 ((cfg1.slots t 0).cast nbuf1_0)
/-- The buffer of window 1 at point `t`. -/
abbrev ms1_1 (t : Fin cfg1.N) : Memref sig .tc .vmem S4x512x512 .fp8e5m2 := win1_1.stage (cfg1.slots t 1)
/-- The buffer of window 1 is a whole one. -/
abbrev hs1_1 (t : Fin cfg1.N) : (ms1_1 t).IsWhole := hstage1_1 ((cfg1.slots t 1).cast nbuf1_1)
/-- The buffer of window 2 at point `t`. -/
abbrev ms1_2 (t : Fin cfg1.N) : Memref sig .tc .vmem S4x512x5120 .fp8e4m3 := win1_2.stage (cfg1.slots t 2)
/-- The buffer of window 2 is a whole one. -/
abbrev hs1_2 (t : Fin cfg1.N) : (ms1_2 t).IsWhole := hstage1_2 ((cfg1.slots t 2).cast nbuf1_2)
/-- The buffer of window 3 at point `t`. -/
abbrev ms1_3 (t : Fin cfg1.N) : Memref sig .tc .vmem S512x1280 .f32 := win1_3.stage (cfg1.slots t 3)
/-- The buffer of window 3 is a whole one. -/
abbrev hs1_3 (t : Fin cfg1.N) : (ms1_3 t).IsWhole := hstage1_3 ((cfg1.slots t 3).cast nbuf1_3)
/-- The buffer of window 4 at point `t`. -/
abbrev ms1_4 (t : Fin cfg1.N) : Memref sig .tc .vmem S512x1280 .f32 := win1_4.stage (cfg1.slots t 4)
/-- The buffer of window 4 is a whole one. -/
abbrev hs1_4 (t : Fin cfg1.N) : (ms1_4 t).IsWhole := hstage1_4 ((cfg1.slots t 4).cast nbuf1_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .smem S3 .f32) (harg2 : arg2.IsWhole) (arg3 : Memref sig .tc .vmem S4x512x512 .fp8e5m2) (harg3 : arg3.IsWhole) (arg4 : Memref sig .tc .vmem S4x512x5120 .fp8e4m3) (harg4 : arg4.IsWhole) (arg5 : Memref sig .tc .vmem S512x1280 .f32) (harg5 : arg5.IsWhole) (arg6 : Memref sig .tc .vmem S512x1280 .f32) (harg6 : arg6.IsWhole)
    (x0 : Vec F S3 .f32) (x1 : Vec F S4x512x512 .fp8e5m2) (x2 : Vec F S4x512x5120 .fp8e4m3) (x3 : Vec F S512x1280 .f32) :
    { L4 : List (View.Piece (Elt F) S512x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1_wgrad i arg2 harg2 arg3 harg3 arg4 harg4 arg5 harg5 arg6 harg6) K } := by
  refine ⟨?_, fun E K => ?run⟩
  case run =>
    simp only [cc1_wgrad_eq_skeleton]; unfold cc1_wgrad_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The run's pieces for output 4 tile its block (1 store of `S512x1280`, checked by the kernel's evaluation: Lib/Ring.lean `Piece.tiledL`, linear in the pieces, through a loop's `@[irreducible]` trip theorem too), so they cover it. -/
theorem cover1_A_4 (c : Dev nD) (i : grid1.Coords) (arg2 : Memref sig .tc .smem S3 .f32) (harg2 : arg2.IsWhole) (arg3 : Memref sig .tc .vmem S4x512x512 .fp8e5m2) (harg3 : arg3.IsWhole) (arg4 : Memref sig .tc .vmem S4x512x5120 .fp8e4m3) (harg4 : arg4.IsWhole) (arg5 : Memref sig .tc .vmem S512x1280 .f32) (harg5 : arg5.IsWhole) (arg6 : Memref sig .tc .vmem S512x1280 .f32) (harg6 : arg6.IsWhole)
    (x0 : Vec F S3 .f32) (x1 : Vec F S4x512x512 .fp8e5m2) (x2 : Vec F S4x512x5120 .fp8e4m3) (x3 : Vec F S512x1280 .f32) (y : S512x1280.Idx) :
    ∃ pc ∈ (kernelRun1_A c i arg2 harg2 arg3 harg3 arg4 harg4 arg5 harg5 arg6 harg6 x0 x1 x2 x3).1, y ∈ pc.1.set :=
  View.cover_of_tiledL (kernelRun1_A c i arg2 harg2 arg3 harg3 arg4 harg4 arg5 harg5 arg6 harg6 x0 x1 x2 x3).1 S512x1280.size (by sl_kernel_rfl) y

/-- What the run leaves in output 4's staging buffer: its pieces read back over junk. -/
def out1_A_4 (c : Dev nD) (i : grid1.Coords) (arg2 : Memref sig .tc .smem S3 .f32) (harg2 : arg2.IsWhole) (arg3 : Memref sig .tc .vmem S4x512x512 .fp8e5m2) (harg3 : arg3.IsWhole) (arg4 : Memref sig .tc .vmem S4x512x5120 .fp8e4m3) (harg4 : arg4.IsWhole) (arg5 : Memref sig .tc .vmem S512x1280 .f32) (harg5 : arg5.IsWhole) (arg6 : Memref sig .tc .vmem S512x1280 .f32) (harg6 : arg6.IsWhole)
    (x0 : Vec F S3 .f32) (x1 : Vec F S4x512x512 .fp8e5m2) (x2 : Vec F S4x512x5120 .fp8e4m3) (x3 : Vec F S512x1280 .f32) : Vec F S512x1280 .f32 :=
  VO1_4.read (Elt F) (VO1_4.writes (Elt F) VO1_4.junk (kernelRun1_A c i arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt1 (c : Dev nD) (t : Fin cfg1.N) : Vec F S512x1280 .f32 :=
  out1_A_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- The body leaves the codes block as read. -/
theorem after1_1 (c : Dev nD) (t : Fin cfg1.N) : (dat1 V c).after 1 t = iblk1 V c 1 t := by dsimp only [dat1]
/-- The body leaves the activations as read. -/
theorem after1_2 (c : Dev nD) (t : Fin cfg1.N) : (dat1 V c).after 2 t = iblk1 V c 2 t := by dsimp only [dat1]
/-- The body leaves the block of the running gradient as read. -/
theorem after1_3 (c : Dev nD) (t : Fin cfg1.N) : (dat1 V c).after 3 t = iblk1 V c 3 t := by dsimp only [dat1]
/-- The body leaves the output block of its point. -/
theorem after1_4 (c : Dev nD) (t : Fin cfg1.N) : (dat1 V c).after 4 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- The body finds the codes block of its point. -/
theorem before1_1 (c : Dev nD) (t : Fin cfg1.N) (d) : (dat1 V c).before 1 t d = iblk1 V c 1 t :=
  before1_1_of V (dat1 V c) (A_eq1 V c 1) (after1_1 V c) t d
/-- The body finds the activations of its point. -/
theorem before1_2 (c : Dev nD) (t : Fin cfg1.N) (d) : (dat1 V c).before 2 t d = iblk1 V c 2 t :=
  before1_2_of V (dat1 V c) (A_eq1 V c 2) (after1_2 V c) t d
/-- The body finds the block of the running gradient of its point. -/
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outsAt1
  unfold out1_A_4
  iintro ⟨HΦ, Ho, ⟨%d0, H0⟩, ⟨%d1, H1⟩, ⟨%d2, H2⟩, ⟨%d3, H3⟩, ⟨%d4, H4⟩⟩
  iapply ((kernelRun1_A c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Calls

end
-- ==== Proof.TwoCalls.lean ====
/- The whole kernel: the two pallas_calls one after the other between the host operations, from the launch to the
   return, with what every buffer holds at each boundary. -/
module

public import proofs.«01_k».proof.Proof.DgradBody
public import proofs.«01_k».proof.Proof.WgradBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of large extents recurses once per coordinate of the long axes
set_option maxRecDepth 16384

noncomputable section

namespace Cert.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
/-- The host operations before the calls write only the references listed. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_cst, main_v6]
/-- The host operations after the calls write only the references listed. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At launch every argument holds what it was launched with. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- After the first host operations every argument holds what it was launched with. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- After the first call an array of it holds what the pipeline leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The first call leaves every other buffer as found. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- After the first call every argument holds what it was launched with. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The first call leaves the buffers that are none of its arrays as found. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
/-- After the second call an array of it holds what the pipeline leaves. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- The second call leaves every other buffer as found. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- After the second call every argument holds what it was launched with. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- The second call leaves the buffers that are none of its arrays as found. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- At the end every argument holds what it was launched with. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

/-- Argument 0 ends as launched. -/
theorem W4_main_arg0 (c : Dev nD) : W4 m ρ c (Proc.devRef .tc main_arg0) = m ((c : Thread nD τ).loc main_arg0) :=
  W4_args m ρ c main_arg0 (by decide)
/-- Argument 1 ends as launched. -/
theorem W4_main_arg1 (c : Dev nD) : W4 m ρ c (Proc.devRef .tc main_arg1) = m ((c : Thread nD τ).loc main_arg1) :=
  W4_args m ρ c main_arg1 (by decide)
/-- Argument 2 ends as launched. -/
theorem W4_main_arg2 (c : Dev nD) : W4 m ρ c (Proc.devRef .tc main_arg2) = m ((c : Thread nD τ).loc main_arg2) :=
  W4_args m ρ c main_arg2 (by decide)
/-- Argument 3 ends as launched. -/
theorem W4_main_arg3 (c : Dev nD) : W4 m ρ c (Proc.devRef .tc main_arg3) = m ((c : Thread nD τ).loc main_arg3) :=
  W4_args m ρ c main_arg3 (by decide)
/-- Argument 4 ends as launched. -/
theorem W4_main_arg4 (c : Dev nD) : W4 m ρ c (Proc.devRef .tc main_arg4) = m ((c : Thread nD τ).loc main_arg4) :=
  W4_args m ρ c main_arg4 (by decide)
/-- Argument 5 ends as launched. -/
theorem W4_main_arg5 (c : Dev nD) : W4 m ρ c (Proc.devRef .tc main_arg5) = m ((c : Thread nD τ).loc main_arg5) :=
  W4_args m ρ c main_arg5 (by decide)
/-- Argument 6 ends as launched. -/
theorem W4_main_arg6 (c : Dev nD) : W4 m ρ c (Proc.devRef .tc main_arg6) = m ((c : Thread nD τ).loc main_arg6) :=
  W4_args m ρ c main_arg6 (by decide)
/-- Argument 7 ends as launched. -/
theorem W4_main_arg7 (c : Dev nD) : W4 m ρ c (Proc.devRef .tc main_arg7) = m ((c : Thread nD τ).loc main_arg7) :=
  W4_args m ρ c main_arg7 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No variant is used. -/
abbrev 𝒱₀ : Variants := Variants.none
/-- No core owes another anything: no level is assigned. -/
abbrev L : GSem nD τ sig → Finset Unit := fun _ => ∅
/-- No level is assigned, so every level is zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m ρ 0 c).Φ (Fin.last (Pipeline.pin pcfgs adm 0).N) ⊢ Pipeline.ΦA spec0 c := Phi_out0 (V1 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters, every weakly fair execution of @main on the TensorCores terminates, nothing
    faulting; every final state has every unscoped buffer at the last boundary's contents (`W4`) and every semaphore counter
    at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The arguments end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c),
     (h.1 c _ (mem_uc main_arg3 (by decide))).trans (W4_main_arg3 m ρ c),
     (h.1 c _ (mem_uc main_arg4 (by decide))).trans (W4_main_arg4 m ρ c),
     (h.1 c _ (mem_uc main_arg5 (by decide))).trans (W4_main_arg5 m ρ c),
     (h.1 c _ (mem_uc main_arg6 (by decide))).trans (W4_main_arg6 m ρ c),
     (h.1 c _ (mem_uc main_arg7 (by decide))).trans (W4_main_arg7 m ρ c)⟩, h.2⟩) (run m ρ)

end Cert.Calls

end
-- ==== Proof.Slabs.lean ====
module
public import proofs.«01_k».proof.Proof.DgradBody
public import Idealize.ShloMosaic.Lib.Pipeline.ValueKit
public import Idealize.ShloMosaic.Lib.Pipeline.ReadBack

/-!
# What one point of the first call computes, over the extended reals

A point of the first call holds a block of four slabs of the incoming gradient, one slab per sequence of the batch, and one
block of the weight. Each slab is masked by its sequence's length, scaled, clipped and stored as codes; the magnitudes of the
masked slab go into the running maxima; and the product of the codes with the weight's block is added to the slab's rows of
the accumulator. The four slabs are written out one after the other in the kernel's text, by payloads that differ only in
which intermediate values they are handed. Here those payloads are brought to one form, each form is read at an index, and
the four stores of a buffer are put together to one value per index.
-/

@[expose] public section
set_option maxRecDepth 16384
noncomputable section
namespace Cert.Calls
open Cert.KernelIdeal Cert.KernelIdeal.Gen
open Idealize.ShloMosaic Idealize.ShloMosaic.TcCoe Idealize.ShloMosaic.Tactic
open Idealize.SL.Sem

/-! ## The slabs of a block -/

/-- The length of sequence `b`. -/
def lenOf (lens : Vec Ideal S4 .i32) (b : Fin 4) : Elt Ideal .i32 := lens (ix1 b)
/-- The gradient's slab of sequence `b`. -/
def slabOf (x : Vec Ideal S4x512x512 .bf16) (b : Fin 4) : Vec Ideal S1x512x512 .bf16 := fun y => x (ix3 b (y 1) (y 2))
/-- The accumulator's slab of sequence `b`. -/
def rowsOf (a : Vec Ideal S4x512x2560 .f32) (b : Fin 4) : Vec Ideal S1x512x2560 .f32 := fun y => a (ix3 b (y 1) (y 2))

/-- An element that can be loaded from the scales is one of three. -/
theorem lt3_of {n : ℕ} (h : ∀ a, ![n] a + ![1] a ≤ S3.size a) : n < 3 := h 0
/-- An element that can be loaded from the lengths is one of four. -/
theorem lt4_of {n : ℕ} (h : ∀ a, ![n] a + ![1] a ≤ S4.size a) : n < 4 := h 0
/-- A slab that can be loaded from the gradient is one of four. -/
theorem lt4_of_slab {n : ℕ} (h : ∀ a, ![n, 0, 0] a + ![1, 512, 512] a ≤ S4x512x512.size a) : n < 4 := h 0
/-- A slab that can be loaded from the accumulator is one of four. -/
theorem lt4_of_rows {n : ℕ} (h : ∀ a, ![n, 0, 0] a + ![1, 512, 2560] a ≤ S4x512x2560.size a) : n < 4 := h 0

/-- Loading one element of the lengths. -/
theorem ld_len (lens : Vec Ideal S4 .i32) (n : ℕ) (h : ∀ a, ![n] a + ![1] a ≤ S4.size a) :
    View.ld (Val := Elt Ideal) (e' := .i32) lens (Rect.unit ![n] ![1] h) = fun _ => lenOf lens ⟨n, lt4_of h⟩ := by
  funext x
  refine View.ld_unit_apply_of (Val := Elt Ideal) (e := .i32) lens ![n] ![1] h x (ix1 ⟨n, lt4_of h⟩) fun a => ?_
  have h0 : (x 0 : ℕ) < 1 := (x 0).isLt
  fin_cases a; show n = n + (x 0 : ℕ); omega

/-- Loading one element of the scales. -/
theorem ld_scale (s : Vec Ideal S3 .f32) (n : ℕ) (h : ∀ a, ![n] a + ![1] a ≤ S3.size a) :
    View.ld (Val := Elt Ideal) (e' := .f32) s (Rect.unit ![n] ![1] h) = fun _ => s (ix1 ⟨n, lt3_of h⟩) := by
  funext x
  refine View.ld_unit_apply_of (Val := Elt Ideal) (e := .f32) s ![n] ![1] h x (ix1 ⟨n, lt3_of h⟩) fun a => ?_
  have h0 : (x 0 : ℕ) < 1 := (x 0).isLt
  fin_cases a; show n = n + (x 0 : ℕ); omega

/-- Loading one slab of the gradient. -/
theorem ld_slab (x : Vec Ideal S4x512x512 .bf16) (n : ℕ) (h : ∀ a, ![n, 0, 0] a + ![1, 512, 512] a ≤ S4x512x512.size a) :
    View.ld (Val := Elt Ideal) (e' := .bf16) x (Rect.unit ![n, 0, 0] ![1, 512, 512] h) = slabOf x ⟨n, lt4_of_slab h⟩ := by
  funext y
  refine View.ld_unit_apply_of (Val := Elt Ideal) (e := .bf16) x ![n, 0, 0] ![1, 512, 512] h y (ix3 ⟨n, lt4_of_slab h⟩ (y 1) (y 2)) fun a => ?_
  have h0 : (y 0 : ℕ) < 1 := (y 0).isLt
  fin_cases a
  · show n = n + (y 0 : ℕ); omega
  · show (y 1 : ℕ) = 0 + (y 1 : ℕ); omega
  · show (y 2 : ℕ) = 0 + (y 2 : ℕ); omega

/-- Loading one slab of the accumulator. -/
theorem ld_rows (x : Vec Ideal S4x512x2560 .f32) (n : ℕ) (h : ∀ a, ![n, 0, 0] a + ![1, 512, 2560] a ≤ S4x512x2560.size a) :
    View.ld (Val := Elt Ideal) (e' := .f32) x (Rect.unit ![n, 0, 0] ![1, 512, 2560] h) = rowsOf x ⟨n, lt4_of_rows h⟩ := by
  funext y
  refine View.ld_unit_apply_of (Val := Elt Ideal) (e := .f32) x ![n, 0, 0] ![1, 512, 2560] h y (ix3 ⟨n, lt4_of_rows h⟩ (y 1) (y 2)) fun a => ?_
  have h0 : (y 0 : ℕ) < 1 := (y 0).isLt
  fin_cases a
  · show n = n + (y 0 : ℕ); omega
  · show (y 1 : ℕ) = 0 + (y 1 : ℕ); omega
  · show (y 2 : ℕ) = 0 + (y 2 : ℕ); omega

/-! ## One form per payload -/

section Forms
variable (s : Elt Ideal .f32) (l : Elt Ideal .i32) (x : Vec Ideal S1x512x512 .bf16)

/-- The row index of a slab, as the kernel makes it. -/
abbrev rowIota : IVec S512x512 32 := iota .tc S512x512 32 [0] iota_S512x512_d0_w32

/-- The slab of codes the body stores for the first sequence. -/
theorem pay10_form : k0_pay10 s l x = k0_pay1 (k0_pay9 s l x) := rfl
/-- The slab of codes the body stores for the second sequence. -/
theorem pay16_form : k0_pay16 (k0_pay5 s) rowIota l x = k0_pay1 (k0_pay9 s l x) := rfl
/-- The slab of codes the body stores for the third sequence. -/
theorem pay22_form : k0_pay22 (k0_pay5 s) rowIota l x = k0_pay1 (k0_pay9 s l x) := rfl
/-- The codes of the second sequence. -/
theorem pay15_form : k0_pay15 (k0_pay5 s) rowIota l x = k0_pay9 s l x := rfl
/-- The codes of the third sequence. -/
theorem pay21_form : k0_pay21 (k0_pay5 s) rowIota l x = k0_pay9 s l x := rfl
/-- The codes of the fourth sequence. -/
theorem pay27_form : k0_pay27 (k0_pay5 s) rowIota l x = k0_pay9 s l x := rfl
/-- The masked slab of the fourth sequence. -/
theorem pay26_form : k0_pay26 rowIota l x = k0_pay8 l x := rfl
/-- The maxima after the first sequence. -/
theorem pay12_form (o : Vec Ideal S8x128 .f32) : k0_pay12 (k0_pay11 l x) o = k0_pay2 (k0_pay8 l x) o := rfl
/-- The maxima after the second sequence. -/
theorem pay18_form (o : Vec Ideal S8x128 .f32) : k0_pay18 (k0_pay17 rowIota l x) o = k0_pay2 (k0_pay8 l x) o := rfl
/-- The maxima after the third sequence. -/
theorem pay24_form (o : Vec Ideal S8x128 .f32) : k0_pay24 (k0_pay23 rowIota l x) o = k0_pay2 (k0_pay8 l x) o := rfl

variable (q : FVec Ideal S512x512 .fp8e5m2) (a : Vec Ideal S1x512x2560 .f32) (w : Vec Ideal S512x2560 .fp8e4m3)
/-- Adding a product to the accumulator has the same form for every sequence. -/
theorem pay3_form : k0_pay3 q a w = k0_pay13 q a w := rfl
/-- Adding a product to the accumulator has the same form for every sequence. -/
theorem pay19_form : k0_pay19 q a w = k0_pay13 q a w := rfl
/-- Adding a product to the accumulator has the same form for every sequence. -/
theorem pay25_form : k0_pay25 q a w = k0_pay13 q a w := rfl
end Forms

/-! ## The forms at an index -/

/-- The masked gradient: entry `(i, j)` of slab `b` where row `i` is before the end of sequence `b`, zero elsewhere. -/
def maskedAt (lens : Vec Ideal S4 .i32) (x : Vec Ideal S4x512x512 .bf16) (b : Fin 4) (i j : Fin 512) : EReal :=
  Scalar.select (IntOp.cmpi CmpIPredicate.slt (BitVec.ofNat 32 i.val) (lens (ix1 b))) (x (ix3 b i j)) (0 : EReal)

/-- Quantising a number with the scale `s`: divided by the scale and clipped to the format's range. -/
def quant (s d : EReal) : EReal :=
  min (Ideal.ofBits FTy.f32 1197473792#32) (max (Ideal.ofBits FTy.f32 3344957440#32) (d * Ideal.div 1 s))

/-- An entry of the masked slab. -/
theorem pay8_at (lens : Vec Ideal S4 .i32) (x : Vec Ideal S4x512x512 .bf16) (b : Fin 4) (j : S512x512.Idx) :
    k0_pay8 (lenOf lens b) (slabOf x b) j = maskedAt lens x b (j 0) (j 1) := by
  pointwise [k0_pay8]
  rfl

/-- An entry of the codes: the masked entry quantised. -/
theorem pay9_at (s : Elt Ideal .f32) (lens : Vec Ideal S4 .i32) (x : Vec Ideal S4x512x512 .bf16) (b : Fin 4) (j : S512x512.Idx) :
    k0_pay9 s (lenOf lens b) (slabOf x b) j = quant s (maskedAt lens x b (j 0) (j 1)) := by
  rw [← pay8_at]
  pointwise [k0_pay9, k0_pay5]
  rfl

/-- An entry of the slab of codes as it is stored. -/
theorem pay1_at (q : FVec Ideal S512x512 .fp8e5m2) (j : S1x512x512.Idx) : k0_pay1 q j = q (ix2 (j 1) (j 2)) := by
  pointwise [k0_pay1]

/-- An entry of the accumulator after a product: what it was plus the sum over the columns of the block. -/
theorem pay13_at (q : FVec Ideal S512x512 .fp8e5m2) (a : Vec Ideal S1x512x2560 .f32) (w : Vec Ideal S512x2560 .fp8e4m3)
    (j : S1x512x2560.Idx) :
    k0_pay13 q a w j = ((a j : EReal) + ∑ k : Fin 512, (q (ix2 (j 1) k) : EReal) * (w (ix2 k (j 2)) : EReal) : EReal) := by
  pointwise [k0_pay13]

/-- The largest magnitude in the rows congruent to `r` modulo 8 and the columns congruent to `l` modulo 128 of a slab. -/
def slabMax (d : FVec Ideal S512x512 .f32) (r : Fin 8) (l : Fin 128) : EReal :=
  Finset.univ.fold max (Ideal.ofBits FTy.f32 4286578688#32) fun y : Fin 4 =>
    Finset.univ.fold max (Ideal.ofBits FTy.f32 4286578688#32) fun x : Fin 64 =>
      FloatOps.absf (F := Ideal) (φ := .f32) (d (ix2 (⟨x.val * 8 + r.val, by omega⟩ : Fin 512) (⟨y.val * 128 + l.val, by omega⟩ : Fin 512)))

/-- An entry of the maxima after a slab: the larger of what it was and the maximum over the slab. -/
theorem pay2_at (d : FVec Ideal S512x512 .f32) (o : Vec Ideal S8x128 .f32) (j : S8x128.Idx) :
    k0_pay2 d o j = max (o j : EReal) (slabMax d (j 0) (j 1)) := by
  pointwise [k0_pay2]
  rfl

/-- An entry of the gradient block: the accumulator times the two scales. -/
theorem pay4_at (a : Vec Ideal S4x512x2560 .f32) (s w : Elt Ideal .f32) (j : S4x512x2560.Idx) :
    k0_pay4 a s w j = ((a j : EReal) * ((s : EReal) * (w : EReal)) : EReal) := by
  pointwise [k0_pay4]

/-- The accumulator is reset to zero. -/
theorem pay6_at (j : S4x512x2560.Idx) : k0_pay6 (F := Ideal) j = (0 : EReal) := by pointwise [k0_pay6]

/-- The maxima are reset to zero. -/
theorem pay7_at (j : S8x128.Idx) : k0_pay7 (F := Ideal) j = (0 : EReal) := by pointwise [k0_pay7]

/-! ## The four stores of a buffer together -/

/-- A store of one slab of codes. -/
abbrev codePiece (n : ℕ) (h : ∀ a, ![n, 0, 0] a + ![1, 512, 512] a ≤ S4x512x512.size a) (v : FVec Ideal S1x512x512 .fp8e5m2) :
    View.Piece (Elt Ideal) S4x512x512 .fp8e5m2 := ⟨Rect.unit (s := S4x512x512) ![n, 0, 0] ![1, 512, 512] h, v⟩

/-- A store of one slab of the accumulator. -/
abbrev accPiece (n : ℕ) (h : ∀ a, ![n, 0, 0] a + ![1, 512, 2560] a ≤ S4x512x2560.size a) (v : FVec Ideal S1x512x2560 .f32) :
    View.Piece (Elt Ideal) S4x512x2560 .f32 := ⟨Rect.unit (s := S4x512x2560) ![n, 0, 0] ![1, 512, 2560] h, v⟩

/-- The block of codes made of the four slabs `q`. -/
def codeBlock (q : Fin 4 → FVec Ideal S512x512 .fp8e5m2) : Vec Ideal S4x512x512 .fp8e5m2 := fun y => q (y 0) (ix2 (y 1) (y 2))

/-- A stored slab of codes is the part of the block of codes it is stored to. -/
theorem codes_piece (q : Fin 4 → FVec Ideal S512x512 .fp8e5m2) (b : Fin 4) (n : ℕ) (hn : n = b.val)
    (h : ∀ a, ![n, 0, 0] a + ![1, 512, 512] a ≤ S4x512x512.size a) (x : S1x512x512.Idx) :
    k0_pay1 (q b) x = codeBlock q ((Rect.unit (s := S4x512x512) ![n, 0, 0] ![1, 512, 512] h).emb x) := by
  subst hn
  rw [pay1_at]
  have h0 : (x 0 : ℕ) < 1 := (x 0).isLt
  have e : (Rect.unit (s := S4x512x512) ![b.val, 0, 0] ![1, 512, 512] h).emb x = ix3 b (x 1) (x 2) := by
    funext d; apply Fin.ext; fin_cases d
    · show b.val + 1 * (x 0 : ℕ) = b.val; omega
    · show 0 + 1 * (x 1 : ℕ) = x 1; omega
    · show 0 + 1 * (x 2 : ℕ) = x 2; omega
  rw [e]
  rfl

/-- The four slabs of codes stored one after the other are the block of codes. -/
theorem codes_canon (q : Fin 4 → FVec Ideal S512x512 .fp8e5m2) (h3 h2 h1 h0) :
    View.canon [codePiece 3 h3 (k0_pay1 (q 3)), codePiece 2 h2 (k0_pay1 (q 2)), codePiece 1 h1 (k0_pay1 (q 1)),
      codePiece 0 h0 (k0_pay1 (q 0))] = codeBlock q := by
  have hp : View.PiecesOf (Val := Elt Ideal) (e := .fp8e5m2) (codeBlock q)
      [codePiece 3 h3 (k0_pay1 (q 3)), codePiece 2 h2 (k0_pay1 (q 2)), codePiece 1 h1 (k0_pay1 (q 1)), codePiece 0 h0 (k0_pay1 (q 0))] :=
    ⟨codes_piece q 3 3 rfl h3, codes_piece q 2 2 rfl h2, codes_piece q 1 1 rfl h1, codes_piece q 0 0 rfl h0, trivial⟩
  funext y
  exact View.canon_apply_of_pieces _ _ hp.mem y (View.cover_of_tiledL (s := S4x512x512) _ S1x512x512.size (by sl_kernel_rfl) y)

/-- The accumulator `a` with the products of the codes `q` and the weight's block `w` added. -/
def accAdd (q : Fin 4 → FVec Ideal S512x512 .fp8e5m2) (a : Vec Ideal S4x512x2560 .f32) (w : Vec Ideal S512x2560 .fp8e4m3) :
    Vec Ideal S4x512x2560 .f32 := fun y =>
  ((a y : EReal) + ∑ k : Fin 512, (q (y 0) (ix2 (y 1) k) : EReal) * (w (ix2 k (y 2)) : EReal) : EReal)

/-- A stored slab of the accumulator is the part of the new accumulator it is stored to. -/
theorem acc_piece (q : Fin 4 → FVec Ideal S512x512 .fp8e5m2) (a : Vec Ideal S4x512x2560 .f32) (w : Vec Ideal S512x2560 .fp8e4m3)
    (b : Fin 4) (n : ℕ) (hn : n = b.val) (h : ∀ a, ![n, 0, 0] a + ![1, 512, 2560] a ≤ S4x512x2560.size a) (x : S1x512x2560.Idx) :
    k0_pay13 (q b) (rowsOf a b) w x = accAdd q a w ((Rect.unit (s := S4x512x2560) ![n, 0, 0] ![1, 512, 2560] h).emb x) := by
  subst hn
  rw [pay13_at]
  have h0 : (x 0 : ℕ) < 1 := (x 0).isLt
  have e : (Rect.unit (s := S4x512x2560) ![b.val, 0, 0] ![1, 512, 2560] h).emb x = ix3 b (x 1) (x 2) := by
    funext d; apply Fin.ext; fin_cases d
    · show b.val + 1 * (x 0 : ℕ) = b.val; omega
    · show 0 + 1 * (x 1 : ℕ) = x 1; omega
    · show 0 + 1 * (x 2 : ℕ) = x 2; omega
  rw [e]
  rfl

/-- The four slabs of the accumulator stored one after the other, over whatever was stored before. -/
theorem acc_canon (q : Fin 4 → FVec Ideal S512x512 .fp8e5m2) (a : Vec Ideal S4x512x2560 .f32) (w : Vec Ideal S512x2560 .fp8e4m3) (h3 h2 h1 h0)
    (L : List (View.Piece (Elt Ideal) S4x512x2560 .f32)) :
    View.canon (accPiece 3 h3 (k0_pay13 (q 3) (rowsOf a 3) w) :: accPiece 2 h2 (k0_pay13 (q 2) (rowsOf a 2) w) ::
      accPiece 1 h1 (k0_pay13 (q 1) (rowsOf a 1) w) :: accPiece 0 h0 (k0_pay13 (q 0) (rowsOf a 0) w) :: L) = accAdd q a w := by
  have hp : View.PiecesOf (Val := Elt Ideal) (e := .f32) (accAdd q a w)
      [accPiece 3 h3 (k0_pay13 (q 3) (rowsOf a 3) w), accPiece 2 h2 (k0_pay13 (q 2) (rowsOf a 2) w),
       accPiece 1 h1 (k0_pay13 (q 1) (rowsOf a 1) w), accPiece 0 h0 (k0_pay13 (q 0) (rowsOf a 0) w)] :=
    ⟨acc_piece q a w 3 3 rfl h3, acc_piece q a w 2 2 rfl h2, acc_piece q a w 1 1 rfl h1, acc_piece q a w 0 0 rfl h0, trivial⟩
  funext y
  exact View.canon_append_of_piecesOf _ L _ hp y (View.cover_of_tiledL (s := S4x512x2560) _ S1x512x2560.size (by sl_kernel_rfl) y)

/-- Reading the whole accumulator after the stores `L` gives what they leave. -/
theorem readCov_all {κ : Kind} {sp : Space} (v : View sig κ sp S4x512x2560 .f32) (L : List (View.Piece (Elt Ideal) S4x512x2560 .f32))
    (h : ∀ a, ![0, 0, 0] a + ![4, 512, 2560] a ≤ S4x512x2560.size a) :
    v.readCov L (Rect.unit (s := S4x512x2560) ![0, 0, 0] ![4, 512, 2560] h).toLoadRect = View.canon L := by
  rw [View.readCov_eq_canon']
  funext j
  refine congrArg (View.canon L) (funext fun a => Fin.ext ?_)
  refine (Rect.idx_unit_val _ _ h j a).trans ?_
  fin_cases a <;> exact Nat.zero_add _

end Cert.Calls
end
-- ==== Proof.DgradStep.lean ====
module
public import proofs.«01_k».proof.Proof.Slabs

/-!
# The buffers of the first call after each point, over the extended reals

What the buffers hold after a point, in each of the four cases, read back from the stores its run found: the codes of the
point's block; the maxima, taken on from the point before or from zero; the accumulator, added to or begun from zero; and at
the last point of a half the gradient block, which is the scaled accumulator.
-/

@[expose] public section
set_option maxRecDepth 16384
noncomputable section
namespace Cert.Calls
open Cert.KernelIdeal Cert.KernelIdeal.Gen
open Idealize.ShloMosaic Idealize.ShloMosaic.TcCoe Idealize.ShloMosaic.Tactic
open Idealize.SL.Sem

variable (V : (c : Dev nD) → (b : Ref sig .tc) → Buf (Elt Ideal) ((c : Thread nD τ).loc b)) (c : Dev nD) (t : Fin cfg0.N)

/-- The lengths, the scales, the gradient block and the weight block a point reads. -/
abbrev lensT : Vec Ideal S4 .i32 := iblk0 V c 0 t
/-- The scales a point reads. -/
abbrev scalesT : Vec Ideal S3 .f32 := iblk0 V c 1 t
/-- The gradient block a point reads. -/
abbrev gradT : Vec Ideal S4x512x512 .bf16 := iblk0 V c 2 t
/-- The weight block a point reads. -/
abbrev weightT : Vec Ideal S512x2560 .fp8e4m3 := iblk0 V c 3 t

/-- The masked slab of sequence `b` at a point. -/
def maskT (b : Fin 4) : FVec Ideal S512x512 .f32 := k0_pay8 (lenOf (lensT V c t) b) (slabOf (gradT V c t) b)
/-- The codes of the slab of sequence `b` at a point. -/
def codesT (b : Fin 4) : FVec Ideal S512x512 .fp8e5m2 :=
  k0_pay9 (scalesT V c t (ix1 0)) (lenOf (lensT V c t) b) (slabOf (gradT V c t) b)
/-- The maxima after a point that found `o` in their buffer. -/
def maxT (o : Vec Ideal S8x128 .f32) : Vec Ideal S8x128 .f32 :=
  k0_pay2 (maskT V c t 3) (k0_pay2 (maskT V c t 2) (k0_pay2 (maskT V c t 1) (k0_pay2 (maskT V c t 0) o)))
/-- What a point adds to the accumulator. -/
def prodT (y : S4x512x2560.Idx) : EReal :=
  ∑ k : Fin 512, (codesT V c t (y 0) (ix2 (y 1) k) : EReal) * (weightT V c t (ix2 k (y 2)) : EReal)

/-- Loading a length at a point. -/
theorem ld_lenT (n : ℕ) (h : ∀ a, ![n] a + ![1] a ≤ S4.size a) (x) :
    View.ld (Val := Elt Ideal) (S := S4) (e' := .i32) (iblk0 V c 0 t) (Rect.unit ![n] ![1] h) x = lenOf (lensT V c t) ⟨n, lt4_of h⟩ :=
  congrFun (ld_len (lensT V c t) n h) x

/-- Loading a scale at a point. -/
theorem ld_scaleT (n : ℕ) (h : ∀ a, ![n] a + ![1] a ≤ S3.size a) (x) :
    View.ld (Val := Elt Ideal) (S := S3) (e' := .f32) (iblk0 V c 1 t) (Rect.unit ![n] ![1] h) x = scalesT V c t (ix1 ⟨n, lt3_of h⟩) :=
  congrFun (ld_scale (scalesT V c t) n h) x

/-! ## Case A: the first point of all -/

/-- At the first point of all the codes buffer holds the codes of the four slabs. -/
theorem codes_A (h0 : t.val % 34 = 0) (h1 : t.val % 68 = 0) (h2 : ¬t.val % 34 = 33) :
    (heldAt0 V c t.val t.isLt).codes = codeBlock (codesT V c t) := by
  rw [heldAt0_A V c t h0 h1 h2]; dsimp only [readBack]
  rw [View.read_writes_eq_canon _ _ _ (coverA_6 V c t h0 h1 h2)]
  unfold runA kernelRun0_A; dsimp only; sl_unfold_words
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  exact codes_canon (codesT V c t) _ _ _ _

/-- At the first point of all the maxima are those of the block, started from zero. -/
theorem amax_A (h0 : t.val % 34 = 0) (h1 : t.val % 68 = 0) (h2 : ¬t.val % 34 = 33) :
    (heldAt0 V c t.val t.isLt).amax = maxT V c t (k0_pay7 (F := Ideal)) := by
  rw [heldAt0_A V c t h0 h1 h2]; dsimp only [readBack]
  rw [View.read_writes_eq_canon _ _ _ (coverA_5 V c t h0 h1 h2)]
  unfold runA kernelRun0_A; dsimp only; sl_unfold_words
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  rfl

/-- At the first point of all the accumulator holds zero plus the product of the point. -/
theorem acc_A (h0 : t.val % 34 = 0) (h1 : t.val % 68 = 0) (h2 : ¬t.val % 34 = 33) (y : S4x512x2560.Idx) :
    (heldAt0 V c t.val t.isLt).acc y = (0 : EReal) + prodT V c t y := by
  rw [heldAt0_A V c t h0 h1 h2]; dsimp only [readBack]
  rw [View.read_writes_eq_canon _ _ _ (coverA_s V c t h0 h1 h2)]
  unfold runA kernelRun0_A; dsimp only; sl_unfold_words
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  refine (congrFun (acc_canon (codesT V c t) (k0_pay6 (F := Ideal)) (weightT V c t) _ _ _ _ _) y).trans ?_
  unfold accAdd; rw [pay6_at]; rfl

/-! ## Case B: a point inside a half -/

/-- At a point inside a half the codes buffer holds the codes of the four slabs. -/
theorem codes_B (h0 : ¬t.val % 34 = 0) (h1 : ¬t.val % 68 = 0) (h2 : ¬t.val % 34 = 33) :
    (heldAt0 V c t.val t.isLt).codes = codeBlock (codesT V c t) := by
  rw [heldAt0_B V c t h0 h1 h2]; dsimp only [readBack]
  rw [View.read_writes_eq_canon _ _ _ (coverB_6 V c t h0 h1 h2 _ _)]
  unfold runB kernelRun0_B; dsimp only; sl_unfold_words
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  exact codes_canon (codesT V c t) _ _ _ _

/-- At a point inside a half the maxima of the point before take in those of the block. -/
theorem amax_B (h0 : ¬t.val % 34 = 0) (h1 : ¬t.val % 68 = 0) (h2 : ¬t.val % 34 = 33) :
    (heldAt0 V c t.val t.isLt).amax = maxT V c t (prev0 V c t).amax := by
  rw [heldAt0_B V c t h0 h1 h2]; dsimp only [readBack]
  rw [View.read_writes_eq_canon _ _ _ (coverB_5 V c t h0 h1 h2 _ _)]
  unfold runB kernelRun0_B; dsimp only; sl_unfold_words
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  rfl

/-- At a point inside a half the accumulator of the point before has the product of the point added. -/
theorem acc_B (h0 : ¬t.val % 34 = 0) (h1 : ¬t.val % 68 = 0) (h2 : ¬t.val % 34 = 33) (y : S4x512x2560.Idx) :
    (heldAt0 V c t.val t.isLt).acc y = ((prev0 V c t).acc y : EReal) + prodT V c t y := by
  rw [heldAt0_B V c t h0 h1 h2]; dsimp only [readBack]
  rw [View.read_writes_eq_canon _ _ _ (coverB_s V c t h0 h1 h2 _ _)]
  unfold runB kernelRun0_B; dsimp only; sl_unfold_words
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  exact congrFun (acc_canon (codesT V c t) (prev0 V c t).acc (weightT V c t) _ _ _ _ []) y

/-! ## Case C: the last point of a half -/

/-- At the last point of a half the codes buffer holds the codes of the four slabs. -/
theorem codes_C (h0 : ¬t.val % 34 = 0) (h1 : ¬t.val % 68 = 0) (h2 : t.val % 34 = 33) :
    (heldAt0 V c t.val t.isLt).codes = codeBlock (codesT V c t) := by
  rw [heldAt0_C V c t h0 h1 h2]; dsimp only [readBack]
  rw [View.read_writes_eq_canon _ _ _ (coverC_6 V c t h0 h1 h2 _ _)]
  unfold runC kernelRun0_C; dsimp only; sl_unfold_words
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  exact codes_canon (codesT V c t) _ _ _ _

/-- At the last point of a half the maxima of the point before take in those of the block. -/
theorem amax_C (h0 : ¬t.val % 34 = 0) (h1 : ¬t.val % 68 = 0) (h2 : t.val % 34 = 33) :
    (heldAt0 V c t.val t.isLt).amax = maxT V c t (prev0 V c t).amax := by
  rw [heldAt0_C V c t h0 h1 h2]; dsimp only [readBack]
  rw [View.read_writes_eq_canon _ _ _ (coverC_5 V c t h0 h1 h2 _ _)]
  unfold runC kernelRun0_C; dsimp only; sl_unfold_words
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  rfl

/-- At the last point of a half the accumulator of the point before has the product of the point added. -/
theorem acc_C (h0 : ¬t.val % 34 = 0) (h1 : ¬t.val % 68 = 0) (h2 : t.val % 34 = 33) (y : S4x512x2560.Idx) :
    (heldAt0 V c t.val t.isLt).acc y = ((prev0 V c t).acc y : EReal) + prodT V c t y := by
  rw [heldAt0_C V c t h0 h1 h2]; dsimp only [readBack]
  rw [View.read_writes_eq_canon _ _ _ (coverC_s V c t h0 h1 h2 _ _)]
  unfold runC kernelRun0_C; dsimp only; sl_unfold_words
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  exact congrFun (acc_canon (codesT V c t) (prev0 V c t).acc (weightT V c t) _ _ _ _ []) y

/-- At the last point of a half the gradient block is the accumulator, with the last product added, times two scales. -/
theorem dx_C (h0 : ¬t.val % 34 = 0) (h1 : ¬t.val % 68 = 0) (h2 : t.val % 34 = 33) (y : S4x512x2560.Idx) :
    (heldAt0 V c t.val t.isLt).dx y = (((prev0 V c t).acc y : EReal) + prodT V c t y)
      * ((scalesT V c t (ix1 0) : EReal) * (scalesT V c t (ix1 1) : EReal)) := by
  rw [heldAt0_C V c t h0 h1 h2]; dsimp only [readBack]
  rw [View.read_writes_eq_canon _ _ _ (coverC_4 V c t h0 h1 h2 _ _)]
  unfold runC kernelRun0_C; dsimp only; sl_unfold_words
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  rw [pay4_at, readCov_all]
  exact congrArg (fun z : EReal => z * ((scalesT V c t (ix1 0) : EReal) * (scalesT V c t (ix1 1) : EReal)))
    (congrFun (acc_canon (codesT V c t) (prev0 V c t).acc (weightT V c t) _ _ _ _ []) y)

/-! ## Case D: the first point of the second half -/

/-- At the first point of the second half the codes buffer holds the codes of the four slabs. -/
theorem codes_D (h0 : t.val % 34 = 0) (h1 : ¬t.val % 68 = 0) (h2 : ¬t.val % 34 = 33) :
    (heldAt0 V c t.val t.isLt).codes = codeBlock (codesT V c t) := by
  rw [heldAt0_D V c t h0 h1 h2]; dsimp only [readBack]
  rw [View.read_writes_eq_canon _ _ _ (coverD_6 V c t h0 h1 h2 _)]
  unfold runD kernelRun0_D; dsimp only; sl_unfold_words
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  exact codes_canon (codesT V c t) _ _ _ _

/-- At the first point of the second half the maxima of the point before take in those of the block. -/
theorem amax_D (h0 : t.val % 34 = 0) (h1 : ¬t.val % 68 = 0) (h2 : ¬t.val % 34 = 33) :
    (heldAt0 V c t.val t.isLt).amax = maxT V c t (prev0 V c t).amax := by
  rw [heldAt0_D V c t h0 h1 h2]; dsimp only [readBack]
  rw [View.read_writes_eq_canon _ _ _ (coverD_5 V c t h0 h1 h2 _)]
  unfold runD kernelRun0_D; dsimp only; sl_unfold_words
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  rfl

/-- At the first point of the second half the accumulator holds zero plus the product of the point. -/
theorem acc_D (h0 : t.val % 34 = 0) (h1 : ¬t.val % 68 = 0) (h2 : ¬t.val % 34 = 33) (y : S4x512x2560.Idx) :
    (heldAt0 V c t.val t.isLt).acc y = (0 : EReal) + prodT V c t y := by
  rw [heldAt0_D V c t h0 h1 h2]; dsimp only [readBack]
  rw [View.read_writes_eq_canon _ _ _ (coverD_s V c t h0 h1 h2 _)]
  unfold runD kernelRun0_D; dsimp only; sl_unfold_words
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread, read_unread_whole]
  simp only [ld_lenT, ld_scaleT, ld_slab, ld_rows, pay10_form, pay16_form, pay22_form, pay15_form, pay21_form, pay27_form, pay26_form,
    pay12_form, pay18_form, pay24_form, pay3_form, pay19_form, pay25_form]
  refine (congrFun (acc_canon (codesT V c t) (k0_pay6 (F := Ideal)) (weightT V c t) _ _ _ _ _) y).trans ?_
  unfold accAdd; rw [pay6_at]; rfl

end Cert.Calls
end
-- ==== Proof.DgradBlocks.lean ====
module
public import proofs.«01_k».proof.Proof.DgradStep
public import Idealize.ShloMosaic.Lib.Pipeline.ValueKit

/-!
# The blocks of the first call as parts of its arrays
-/

@[expose] public section
set_option maxRecDepth 16384
noncomputable section
namespace Cert.Calls
open Cert.KernelIdeal Cert.KernelIdeal.Gen
open Idealize.ShloMosaic Idealize.ShloMosaic.TcCoe Idealize.ShloMosaic.Tactic
open Idealize.SL.Sem

variable (V : (c : Dev nD) → (b : Ref sig .tc) → Buf (Elt Ideal) ((c : Thread nD τ).loc b)) (c : Dev nD) (t : Fin cfg0.N)

/-- The block each window of the first call is at, by the number of the point. -/
theorem idx0 : ∀ t : Fin cfg0.N, win0_0.index t = ![0] ∧ win0_1.index t = ![0] ∧ win0_2.index t = ![0, 0, t.val % 34]
    ∧ win0_3.index t = ![t.val % 34, t.val / 34] ∧ win0_4.index t = ![0, 0, t.val / 34] ∧ win0_5.index t = ![0, 0]
    ∧ win0_6.index t = ![0, 0, t.val % 34] := (by decide +kernel : ∀ t : Fin grid0.N, _)

/-- The arrays the first call reads: the lengths, the scales, the gradient and the weights. -/
abbrev lensV : Vec Ideal S4 .i32 := V c main_arg7
/-- The scales the first call reads. -/
abbrev scalesV : Vec Ideal S3 .f32 := V c main_v3
/-- The gradient the first call reads. -/
abbrev gradV : Vec Ideal S4x512x17408 .bf16 := V c main_arg0
/-- The weights the first call reads. -/
abbrev weightV : Vec Ideal S17408x5120 .fp8e4m3 := V c main_arg4

/-- The first call has 68 points. -/
theorem lt68 : t.val < 68 := t.isLt

/-- The column of the gradient at lane `k` of a point's block. -/
def col (k : Fin 512) : Fin 17408 := ⟨t.val % 34 * 512 + k.val, by have := lt68 t; omega⟩
/-- The column of the weights at lane `k` of a point's block. -/
def half (k : Fin 2560) : Fin 5120 := ⟨t.val / 34 * 2560 + k.val, by have := lt68 t; omega⟩

/-- Every point reads all the lengths. -/
theorem lens_eq (b : Fin 4) : lensT V c t (ix1 b) = lensV V c (ix1 b) := by
  unfold lensT lensV
  blk_point [iblk0, idx0 t]

/-- Every point reads all the scales. -/
theorem scales_eq (b : Fin 3) : scalesT V c t (ix1 b) = scalesV V c (ix1 b) := by
  unfold scalesT scalesV
  blk_point [iblk0, idx0 t]

/-- An entry of the gradient block is the entry of the gradient at the column of the point. -/
theorem grad_eq (b : Fin 4) (i k : Fin 512) : gradT V c t (ix3 b i k) = gradV V c (ix3 b i (col t k)) := by
  unfold gradT gradV
  blk_point [iblk0, col, idx0 t]

/-- An entry of the weight block is the entry of the weights at the row and the column of the point. -/
theorem weight_eq (k : Fin 512) (l : Fin 2560) : weightT V c t (ix2 k l) = weightV V c (ix2 (col t k) (half t l)) := by
  unfold weightT weightV
  blk_point [iblk0, col, half, idx0 t]

end Cert.Calls
end
-- ==== Proof.DgradCodes.lean ====
module
public import proofs.«01_k».proof.Proof.DgradBlocks

/-!
# The codes the first call leaves

The formulas of the problem over whole arrays — the masked gradient and its codes — and the array of codes as the first call
leaves it: at every position the code of the masked gradient.
-/

@[expose] public section
set_option maxRecDepth 16384
noncomputable section
namespace Cert.Calls
open Cert.KernelIdeal Cert.KernelIdeal.Gen
open Idealize.ShloMosaic Idealize.ShloMosaic.TcCoe Idealize.ShloMosaic.Tactic
open Idealize.SL.Sem

/-- The masked gradient: position `i` of sequence `b` counts while `i` is below the sequence's length. -/
def masked (lens : Vec Ideal S4 .i32) (dy : Vec Ideal S4x512x17408 .bf16) (b : Fin 4) (i : Fin 512) (j : Fin 17408) : EReal :=
  Scalar.select (IntOp.cmpi CmpIPredicate.slt (BitVec.ofNat 32 i.val) (lens (ix1 b))) (dy (ix3 b i j) : EReal) (0 : EReal)

/-- The codes of the masked gradient. -/
def codesOf (lens : Vec Ideal S4 .i32) (s : EReal) (dy : Vec Ideal S4x512x17408 .bf16) : Vec Ideal S4x512x17408 .fp8e5m2 :=
  fun y => quant s (masked lens dy (y 0) (y 1) (y 2))

variable (V : (c : Dev nD) → (b : Ref sig .tc) → Buf (Elt Ideal) ((c : Thread nD τ).loc b)) (c : Dev nD) (t : Fin cfg0.N)

/-- The codes over the arrays the first call reads. -/
def codesV : Vec Ideal S4x512x17408 .fp8e5m2 := codesOf (lensV V c) (scalesV V c (ix1 0)) (gradV V c)

/-- One masked entry of a point's block. -/
theorem maskedAt_eq (b : Fin 4) (i k : Fin 512) :
    maskedAt (lensT V c t) (gradT V c t) b i k = masked (lensV V c) (gradV V c) b i (col t k) := by
  unfold maskedAt masked
  rw [lens_eq, grad_eq]

/-- A point's masked slab is its columns of the masked gradient. -/
theorem mask_at (b : Fin 4) (i k : Fin 512) : maskT V c t b (ix2 i k) = masked (lensV V c) (gradV V c) b i (col t k) :=
  (pay8_at _ _ _ _).trans (maskedAt_eq V c t b i k)

/-- A point's codes are its columns of the codes. -/
theorem codes_at (b : Fin 4) (i k : Fin 512) : codesT V c t b (ix2 i k) = codesV V c (ix3 b i (col t k)) :=
  (pay9_at _ _ _ _ _).trans (congrArg₂ quant (scales_eq V c t 0) (maskedAt_eq V c t b i k))

/-- Every point leaves its codes in the block of codes. -/
theorem codes_all : (heldAt0 V c t.val t.isLt).codes = codeBlock (codesT V c t) := by
  by_cases h0 : t.val % 34 = 0
  · by_cases h1 : t.val % 68 = 0
    · exact codes_A V c t h0 h1 (by omega)
    · exact codes_D V c t h0 h1 (by omega)
  · by_cases h2 : t.val % 34 = 33
    · exact codes_C V c t h0 (by omega) h2
    · exact codes_B V c t h0 (by omega) h2

/-- The array of codes the first call leaves. -/
theorem codes_array : (dat0 V c).arrAt 6 cfg0.N = codesV V c := by
  refine (dat0 V c).arrAt_eq_of_covers 6 _ (by decide +kernel) fun t hf y => ?_
  blk_simp
  rw [after0_6, codes_all]
  refine (codes_at V c t _ _ _).trans ?_
  blk_point [col, idx0 t]

end Cert.Calls
end
-- ==== Proof.DgradProduct.lean ====
module
public import proofs.«01_k».proof.Proof.DgradCodes

/-!
# The activation gradient the first call leaves

The accumulator after a point is the sum of the half's products so far; at the half's last point it is the whole contraction
over the 17408 columns, and what is written out is that sum times the two scales.
-/

@[expose] public section
set_option maxRecDepth 16384
noncomputable section
namespace Cert.Calls
open Cert.KernelIdeal Cert.KernelIdeal.Gen
open Idealize.ShloMosaic Idealize.ShloMosaic.TcCoe Idealize.ShloMosaic.Tactic
open Idealize.SL.Sem

/-- The activation gradient: the codes contracted with the weights, times the two scales. -/
def gradOf (q : Vec Ideal S4x512x17408 .fp8e5m2) (w : Vec Ideal S17408x5120 .fp8e4m3) (s : EReal) : Vec Ideal S4x512x5120 .bf16 :=
  fun y => (∑ j : Fin 17408, (q (ix3 (y 0) (y 1) j) : EReal) * (w (ix2 j (y 2)) : EReal)) * s

variable (V : (c : Dev nD) → (b : Ref sig .tc) → Buf (Elt Ideal) ((c : Thread nD τ).loc b)) (c : Dev nD) (t : Fin cfg0.N)

/-- What point number `n` adds to the accumulator. -/
def termAt (n : ℕ) (y : S4x512x2560.Idx) : EReal := if h : n < cfg0.N then prodT V c ⟨n, h⟩ y else 0

/-- At a point of the call the term is the product of the point. -/
theorem termAt_val (y : S4x512x2560.Idx) : termAt V c t.val y = prodT V c t y := dif_pos t.isLt

/-- The accumulator after a point: the sum of its half's products up to it. -/
theorem acc_sum (y : S4x512x2560.Idx) : (heldAt0 V c t.val t.isLt).acc y
    = (0 : EReal) + ∑ k ∈ Finset.range (t.val % 34 + 1), termAt V c (34 * (t.val / 34) + k) y := by
  refine Pipeline.eq_sum_of_reset_step_apply (M := EReal) (fun n h (y : S4x512x2560.Idx) => (heldAt0 V c n h).acc y) 34 (fun _ => (0 : EReal)) (termAt V c) ?_ ?_ t y
  · intro t h0 y
    rw [termAt_val]
    by_cases h1 : t.val % 68 = 0
    · exact acc_A V c t h0 h1 (by omega) y
    · exact acc_D V c t h0 h1 (by omega) y
  · intro t h0 y
    rw [termAt_val]
    by_cases h2 : t.val % 34 = 33
    · exact acc_C V c t h0 (by omega) h2 y
    · exact acc_B V c t h0 (by omega) h2 y

/-- The products of a half's points are the contraction over all columns. -/
theorem sum_terms (h2 : t.val % 34 = 33) (y : S4x512x2560.Idx) :
    ∑ k ∈ Finset.range 34, termAt V c (34 * (t.val / 34) + k) y
      = ∑ j : Fin 17408, (codesV V c (ix3 (y 0) (y 1) j) : EReal) * (weightV V c (ix2 j (half t (y 2))) : EReal) := by
  rw [Finset.sum_range, ← Fin.sum_mul_add_fin 34 512 (fun j : Fin 17408 => (codesV V c (ix3 (y 0) (y 1) j) : EReal) * (weightV V c (ix2 j (half t (y 2))) : EReal))]
  refine Finset.sum_congr rfl fun k _ => ?_
  have ht := lt68 t
  have hk : 34 * (t.val / 34) + k.val < cfg0.N := by
    show 34 * (t.val / 34) + k.val < 68
    have := k.isLt
    omega
  rw [show termAt V c (34 * (t.val / 34) + k.val) y = prodT V c ⟨34 * (t.val / 34) + k.val, hk⟩ y from dif_pos hk]
  unfold prodT
  refine Finset.sum_congr rfl fun l _ => ?_
  refine (congrArg₂ (fun a b : EReal => a * b) (codes_at V c _ (y 0) (y 1) l) (weight_eq V c _ l (y 2))).trans ?_
  have e1 : col ⟨34 * (t.val / 34) + k.val, hk⟩ l = (⟨k.val * 512 + l.val, by have := k.isLt; omega⟩ : Fin 17408) :=
    Fin.ext (by show (34 * (t.val / 34) + k.val) % 34 * 512 + l.val = k.val * 512 + l.val; have := k.isLt; omega)
  have e2 : half ⟨34 * (t.val / 34) + k.val, hk⟩ (y 2) = half t (y 2) :=
    Fin.ext (by show (34 * (t.val / 34) + k.val) / 34 * 2560 + (y 2).val = t.val / 34 * 2560 + (y 2).val; have := k.isLt; omega)
  rw [e1, e2]

/-- The block written out at a half's last point. -/
theorem dx_at (h2 : t.val % 34 = 33) (y : S4x512x2560.Idx) : (heldAt0 V c t.val t.isLt).dx y
    = gradOf (codesV V c) (weightV V c) ((scalesV V c (ix1 0) : EReal) * (scalesV V c (ix1 1) : EReal)) (ix3 (y 0) (y 1) (half t (y 2))) := by
  have h0 : ¬t.val % 34 = 0 := by omega
  refine (dx_C V c t h0 (by omega) h2 _).trans ?_
  rw [← acc_C V c t h0 (by omega) h2, acc_sum, h2, sum_terms V c t h2, zero_add, scales_eq, scales_eq]
  rfl

/-- The activation gradient the first call leaves. -/
theorem dx_array : (dat0 V c).arrAt 4 cfg0.N
    = gradOf (codesV V c) (weightV V c) ((scalesV V c (ix1 0) : EReal) * (scalesV V c (ix1 1) : EReal)) := by
  refine (dat0 V c).arrAt_eq_of_covers 4 _ (by decide +kernel) fun t hf y => ?_
  have h2 : t.val % 34 = 33 := (by decide +kernel : ∀ t : Fin grid0.N, win0_4.flush t = true → t.val % 34 = 33) t hf
  blk_simp
  rw [after0_4]
  refine (dx_at V c t h2 _).trans ?_
  generalize codesV V c = q
  blk_point [half, idx0 t]

end Cert.Calls
end
-- ==== Proof.WgradArray.lean ====
module
public import proofs.«01_k».proof.Proof.WgradBody
public import proofs.«01_k».proof.Proof.Slabs
public import Idealize.ShloMosaic.Lib.Pipeline.ValueKit

/-!
# The weight gradient the second call leaves

Each point adds to its block of the running gradient the four sequences' products of codes and activations, scaled.
-/

@[expose] public section
set_option maxRecDepth 16384
noncomputable section
namespace Cert.Calls
open Cert.KernelIdeal Cert.KernelIdeal.Gen
open Idealize.ShloMosaic Idealize.ShloMosaic.TcCoe Idealize.ShloMosaic.Tactic
open Idealize.SL.Sem

/-- The weight gradient: the running gradient plus the codes contracted with the activations over sequences and positions. -/
def wgradOf (q : Vec Ideal S4x512x17408 .fp8e5m2) (x : Vec Ideal S4x512x5120 .fp8e4m3) (g : Vec Ideal S17408x5120 .f32) (s : EReal) :
    Vec Ideal S17408x5120 .f32 :=
  fun y => (g y : EReal) + (∑ b : Fin 4, ∑ i : Fin 512, (q (ix3 b i (y 0)) : EReal) * (x (ix3 b i (y 1)) : EReal)) * s

variable (V : (c : Dev nD) → (b : Ref sig .tc) → Buf (Elt Ideal) ((c : Thread nD τ).loc b)) (c : Dev nD) (t : Fin cfg1.N)

/-- The block each window of the second call is at, by the number of the point. -/
theorem idx1 : ∀ t : Fin cfg1.N, win1_0.index t = ![0] ∧ win1_1.index t = ![0, 0, t.val / 4] ∧ win1_2.index t = ![0, 0, 0]
    ∧ win1_3.index t = ![t.val / 4, t.val % 4] ∧ win1_4.index t = ![t.val / 4, t.val % 4] := (by decide +kernel : ∀ t : Fin grid1.N, _)

/-- The arrays the second call reads: the scales, the codes, the activations and the running gradient. -/
abbrev scalesU : Vec Ideal S3 .f32 := V c main_v3
/-- The codes the second call reads. -/
abbrev codesU : Vec Ideal S4x512x17408 .fp8e5m2 := V c main_v4_2
/-- The activations the second call reads. -/
abbrev actsU : Vec Ideal S4x512x5120 .fp8e4m3 := V c main_arg2
/-- The running gradient the second call reads. -/
abbrev mainU : Vec Ideal S17408x5120 .f32 := V c main_arg6

/-- The offset of the quarter of the activations' columns a point loads. -/
theorem off1 : ∀ t : Fin cfg1.N, BitVec.toNat (Scalar.indexCast (Scalar.muli (BitVec.ofNat 32 ↑(grid1.coords t 1)) 1280#32)) = t.val % 4 * 1280 :=
  (by decide +kernel : ∀ t : Fin grid1.N, _)

/-- The scales, the codes block, the activations and the block of the running gradient a point reads. -/
abbrev scalesB : Vec Ideal S3 .f32 := iblk1 V c 0 t
/-- The codes block a point reads. -/
abbrev codesB : Vec Ideal S4x512x512 .fp8e5m2 := iblk1 V c 1 t
/-- The activations a point reads. -/
abbrev actsB : Vec Ideal S4x512x5120 .fp8e4m3 := iblk1 V c 2 t
/-- The block of the running gradient a point reads. -/
abbrev mainB : Vec Ideal S512x1280 .f32 := iblk1 V c 3 t

/-- The second call has 136 points. -/
theorem lt136 : t.val < 136 := t.isLt

/-- The row of the gradient at row `k` of a point's block, and its column at column `l`. -/
def row1 (k : Fin 512) : Fin 17408 := ⟨t.val / 4 * 512 + k.val, by have := lt136 t; omega⟩
/-- The column of the gradient at column `l` of a point's block. -/
def col1 (l : Fin 1280) : Fin 5120 := ⟨t.val % 4 * 1280 + l.val, by omega⟩

/-- Every point reads all the scales. -/
theorem scalesB_eq (b : Fin 3) : scalesB V c t (ix1 b) = scalesU V c (ix1 b) := by
  unfold scalesB scalesU
  blk_point [iblk1, idx1 t]

/-- An entry of the codes block is the code at the column of the point. -/
theorem codesB_eq (b : Fin 4) (i k : Fin 512) :
    codesB V c t (ix3 b i k) = codesU V c (ix3 b i (row1 t k)) := by
  unfold codesB codesU
  blk_point [iblk1, row1, idx1 t]

/-- Every point reads all the activations. -/
theorem actsB_eq (b : Fin 4) (i : Fin 512) (k : Fin 5120) :
    actsB V c t (ix3 b i k) = actsU V c (ix3 b i k) := by
  unfold actsB actsU
  blk_point [iblk1, idx1 t]

/-- An entry of the block of the running gradient is its entry at the row and the column of the point. -/
theorem mainB_eq (k : Fin 512) (l : Fin 1280) :
    mainB V c t (ix2 k l) = mainU V c (ix2 (row1 t k) (col1 t l)) := by
  unfold mainB mainU
  blk_point [iblk1, row1, col1, idx1 t]

/-- A sequence whose activations can be loaded is one of four. -/
theorem lt4_of_quarter {n k : ℕ} (h : ∀ a, ![n, 0, k] a + ![1, 512, 1280] a ≤ S4x512x5120.size a) : n < 4 := h 0
/-- A quarter that can be loaded ends inside the columns. -/
theorem le_of_quarter {n k : ℕ} (h : ∀ a, ![n, 0, k] a + ![1, 512, 1280] a ≤ S4x512x5120.size a) : k + 1280 ≤ 5120 := h 2

/-- Loading a scale. -/
theorem ld_scaleB (n : ℕ) (h : ∀ a, ![n] a + ![1] a ≤ S3.size a) (x) :
    View.ld (Val := Elt Ideal) (S := S3) (e' := .f32) (iblk1 V c 0 t) (Rect.unit ![n] ![1] h) x = scalesB V c t (ix1 ⟨n, lt3_of h⟩) :=
  congrFun (ld_scale (scalesB V c t) n h) x

/-- Loading one sequence's codes. -/
theorem ld_codesB (x : Vec Ideal S4x512x512 .fp8e5m2) (n : ℕ) (h : ∀ a, ![n, 0, 0] a + ![1, 512, 512] a ≤ S4x512x512.size a) :
    View.ld (Val := Elt Ideal) (e' := .fp8e5m2) x (Rect.unit ![n, 0, 0] ![1, 512, 512] h)
      = (fun y => x (ix3 ⟨n, lt4_of_slab h⟩ (y 1) (y 2)) : Vec Ideal S1x512x512 .fp8e5m2) := by
  funext y
  refine View.ld_unit_apply_of (Val := Elt Ideal) (e := .fp8e5m2) x ![n, 0, 0] ![1, 512, 512] h y (ix3 ⟨n, lt4_of_slab h⟩ (y 1) (y 2)) fun a => ?_
  have h0 : (y 0 : ℕ) < 1 := (y 0).isLt
  fin_cases a
  · show n = n + (y 0 : ℕ); omega
  · show (y 1 : ℕ) = 0 + (y 1 : ℕ); omega
  · show (y 2 : ℕ) = 0 + (y 2 : ℕ); omega

/-- Loading a quarter of one sequence's activations. -/
theorem ld_quarter (x : Vec Ideal S4x512x5120 .fp8e4m3) (n k : ℕ) (h : ∀ a, ![n, 0, k] a + ![1, 512, 1280] a ≤ S4x512x5120.size a) :
    View.ld (Val := Elt Ideal) (e' := .fp8e4m3) x (Rect.unit ![n, 0, k] ![1, 512, 1280] h)
      = (fun y => x (ix3 ⟨n, lt4_of_quarter h⟩ (y 1) ⟨k + (y 2).val, by have := le_of_quarter h; have h2 : (y 2).val < 1280 := (y 2).isLt; omega⟩) :
        Vec Ideal S1x512x1280 .fp8e4m3) := by
  funext y
  refine View.ld_unit_apply_of (Val := Elt Ideal) (e := .fp8e4m3) x ![n, 0, k] ![1, 512, 1280] h y _ fun a => ?_
  have h0 : (y 0 : ℕ) < 1 := (y 0).isLt
  fin_cases a
  · show n = n + (y 0 : ℕ); omega
  · show (y 1 : ℕ) = 0 + (y 1 : ℕ); omega
  · show k + (y 2 : ℕ) = k + (y 2 : ℕ); rfl

/-- An entry of the output block: the running gradient plus the product times the two scales. -/
theorem wpay1_at (a b : Vec Ideal S512x1280 .f32) (s w : Elt Ideal .f32) (j : S512x1280.Idx) :
    k1_pay1 a b s w j = ((b j : EReal) + (a j : EReal) * ((s : EReal) * (w : EReal)) : EReal) := by
  pointwise [k1_pay1]

/-- An entry of the product: the sums over the rows of the four sequences, added in turn. -/
theorem wpay2_at (a : Vec Ideal S1x512x512 .fp8e5m2) (b : Vec Ideal S1x512x1280 .fp8e4m3) (p : Vec Ideal S1x512x512 .fp8e5m2)
    (d : Vec Ideal S1x512x1280 .fp8e4m3) (e : Vec Ideal S1x512x512 .fp8e5m2) (f : Vec Ideal S1x512x1280 .fp8e4m3)
    (g : Vec Ideal S1x512x512 .fp8e5m2) (h : Vec Ideal S1x512x1280 .fp8e4m3) (j : S512x1280.Idx) :
    k1_pay2 a b p d e f g h j = ((((∑ x : Fin 512, (a (ix3 0 x (j 0)) : EReal) * (b (ix3 0 x (j 1)) : EReal))
        + ∑ x : Fin 512, (p (ix3 0 x (j 0)) : EReal) * (d (ix3 0 x (j 1)) : EReal))
        + ∑ x : Fin 512, (e (ix3 0 x (j 0)) : EReal) * (f (ix3 0 x (j 1)) : EReal))
        + ∑ x : Fin 512, (g (ix3 0 x (j 0)) : EReal) * (h (ix3 0 x (j 1)) : EReal) : EReal) := by
  pointwise [k1_pay2]

/-- The products of one sequence over a point's blocks are its products over the arrays. -/
theorem seq_sum (n : ℕ) (hn : n < 4) (k : ℕ) (hk : k = t.val % 4 * 1280) (y : S512x1280.Idx) (hb) :
    ∑ x : Fin 512, (codesB V c t (ix3 ⟨n, hn⟩ x (y 0)) : EReal) * (actsB V c t (ix3 ⟨n, hn⟩ x ⟨k + (y 1).val, hb⟩) : EReal)
      = ∑ i : Fin 512, (codesU V c (ix3 ⟨n, hn⟩ i (row1 t (y 0))) : EReal)
        * (actsU V c (ix3 ⟨n, hn⟩ i (col1 t (y 1))) : EReal) := by
  subst hk
  exact Finset.sum_congr rfl fun x _ => congrArg₂ (fun a b : EReal => a * b) (codesB_eq V c t _ x (y 0)) (actsB_eq V c t _ x _)

/-- The same products as the point loads them. -/
theorem seq_load (n k : ℕ) (hk : k = t.val % 4 * 1280) (h : ∀ a, ![n, 0, 0] a + ![1, 512, 512] a ≤ S4x512x512.size a)
    (h' : ∀ a, ![n, 0, k] a + ![1, 512, 1280] a ≤ S4x512x5120.size a) (y : S512x1280.Idx) :
    ∑ x : Fin 512, ((View.ld (Val := Elt Ideal) (e' := .fp8e5m2) (codesB V c t) (Rect.unit ![n, 0, 0] ![1, 512, 512] h) : Vec Ideal S1x512x512 .fp8e5m2) (ix3 0 x (y 0)) : EReal)
        * ((View.ld (Val := Elt Ideal) (e' := .fp8e4m3) (actsB V c t) (Rect.unit ![n, 0, k] ![1, 512, 1280] h') : Vec Ideal S1x512x1280 .fp8e4m3) (ix3 0 x (y 1)) : EReal)
      = ∑ i : Fin 512, (codesU V c (ix3 ⟨n, lt4_of_slab h⟩ i (row1 t (y 0))) : EReal) * (actsU V c (ix3 ⟨n, lt4_of_slab h⟩ i (col1 t (y 1))) : EReal) := by
  rw [ld_codesB, ld_quarter]
  exact seq_sum V c t n _ k hk y _

/-- What a point leaves in its block. -/
theorem outs_at (y : S512x1280.Idx) : outsAt1 V c t y
    = wgradOf (codesU V c) (actsU V c) (mainU V c) ((scalesU V c (ix1 0) : EReal) * (scalesU V c (ix1 2) : EReal))
        (ix2 (row1 t (y 0)) (col1 t (y 1))) := by
  unfold outsAt1 out1_A_4
  rw [View.read_writes_eq_canon _ _ _ (cover1_A_4 c (grid1.coords t) (ms1_0 t) (hs1_0 t) (ms1_1 t) (hs1_1 t) (ms1_2 t) (hs1_2 t) (ms1_3 t) (hs1_3 t)
    (ms1_4 t) (hs1_4 t) (iblk1 V c 0 t) (iblk1 V c 1 t) (iblk1 V c 2 t) (iblk1 V c 3 t))]
  unfold kernelRun1_A; dsimp only; sl_unfold_words
  simp (disch := decide) only [View.canon_cons_unit_lit', View.ld_unit_lit', View.readCov_unit_lit', View.readCov_cons_unit_lit',
    View.readAt_eq_ld, Memref.IsWhole.read_unread, read_unread_whole]
  refine (wpay1_at _ _ _ _ _).trans ?_
  unfold wgradOf
  rw [Fin.sum_univ_four]
  refine congrArg₂ (fun a b : EReal => a + b) ?_ (congrArg₂ (fun a b : EReal => a * b) ?_ (congrArg₂ (fun a b : EReal => a * b) ?_ ?_))
  · exact (congrArg (mainB V c t) (by funext a; fin_cases a <;> rfl)).trans (mainB_eq V c t (y 0) (y 1))
  · refine (wpay2_at _ _ _ _ _ _ _ _ _).trans ?_
    refine congrArg₂ (fun a b : EReal => a + b) (congrArg₂ (fun a b : EReal => a + b) (congrArg₂ (fun a b : EReal => a + b) ?_ ?_) ?_) ?_
    · exact seq_load V c t 0 _ (off1 t) _ _ y
    · exact seq_load V c t 1 _ (off1 t) _ _ y
    · exact seq_load V c t 2 _ (off1 t) _ _ y
    · exact seq_load V c t 3 _ (off1 t) _ _ y
  · exact (ld_scaleB V c t 0 _ _).trans (scalesB_eq V c t 0)
  · exact (ld_scaleB V c t 2 _ _).trans (scalesB_eq V c t 2)

/-- The weight gradient the second call leaves. -/
theorem wgrad_array : (dat1 V c).arrAt 4 cfg1.N
    = wgradOf (codesU V c) (actsU V c) (mainU V c) ((scalesU V c (ix1 0) : EReal) * (scalesU V c (ix1 2) : EReal)) := by
  refine (dat1 V c).arrAt_eq_of_covers 4 _ (by decide +kernel) fun t hf y => ?_
  blk_simp
  rw [after1_4]
  refine (outs_at V c t _).trans ?_
  generalize codesU V c = q
  blk_point [row1, col1, idx1 t]

end Cert.Calls
end
-- ==== Proof.DgradMaxima.lean ====
module
public import proofs.«01_k».proof.Proof.DgradCodes

/-!
# The maxima the first call leaves

The block of maxima after a point is described by its upper bounds: a number bounds the whole block exactly when it is not
negative and bounds the absolute value of every masked entry met so far. After the last point that is every entry of the array.
-/

@[expose] public section
set_option maxRecDepth 16384
noncomputable section
namespace Cert.Calls
open Cert.KernelIdeal Cert.KernelIdeal.Gen
open Idealize.ShloMosaic Idealize.ShloMosaic.TcCoe Idealize.ShloMosaic.Tactic
open Idealize.SL.Sem

/-- The constant the folds start from is below everything. -/
theorem negInf_le (z : EReal) : Ideal.ofBits FTy.f32 4286578688#32 ≤ z := by
  have : Ideal.ofBits FTy.f32 4286578688#32 = ⊥ := by simp [Ideal.ofBits, Ideal.ieee]
  rw [this]; exact bot_le

/-- The absolute value over the extended reals. -/
abbrev absE (x : EReal) : EReal := FloatOps.absf (F := Ideal) (φ := .f32) x

/-- A bound of a maximum over a slab is a bound of every absolute value it is taken over. -/
theorem slabMax_le (d : FVec Ideal S512x512 .f32) (r : Fin 8) (l : Fin 128) (z : EReal) : slabMax d r l ≤ z ↔
    ∀ (y : Fin 4) (x : Fin 64), absE (d (ix2 (⟨x.val * 8 + r.val, by omega⟩ : Fin 512) (⟨y.val * 128 + l.val, by omega⟩ : Fin 512))) ≤ z := by
  unfold slabMax
  simp only [Finset.fold_max_le, negInf_le, true_and, Finset.mem_univ, forall_true_left]

/-- A bound of every maximum taken over a slab is a bound of the slab. -/
theorem slabMax_all (d : FVec Ideal S512x512 .f32) (z : EReal) :
    (∀ j : S8x128.Idx, slabMax d (j 0) (j 1) ≤ z) ↔ ∀ i k : Fin 512, absE (d (ix2 i k)) ≤ z := by
  constructor
  · intro h i k
    have := (slabMax_le d _ _ z).mp (h (ix2 (⟨i.val % 8, by omega⟩ : Fin 8) (⟨k.val % 128, by omega⟩ : Fin 128)))
      ⟨k.val / 128, by omega⟩ ⟨i.val / 8, by omega⟩
    have e1 : (⟨i.val / 8 * 8 + i.val % 8, by omega⟩ : Fin 512) = i := Fin.ext (by show i.val / 8 * 8 + i.val % 8 = i.val; omega)
    have e2 : (⟨k.val / 128 * 128 + k.val % 128, by omega⟩ : Fin 512) = k := Fin.ext (by show k.val / 128 * 128 + k.val % 128 = k.val; omega)
    have e3 : (ix2 (⟨i.val / 8 * 8 + i.val % 8, by omega⟩ : Fin 512) (⟨k.val / 128 * 128 + k.val % 128, by omega⟩ : Fin 512)) = ix2 i k := by rw [e1, e2]
    rw [← e3]; exact this
  · intro h j
    exact (slabMax_le d _ _ z).mpr fun y x => h _ _

/-- A bound of the maxima after one slab. -/
theorem pay2_le (d : FVec Ideal S512x512 .f32) (o : Vec Ideal S8x128 .f32) (z : EReal) :
    (∀ j : S8x128.Idx, (k0_pay2 d o j : EReal) ≤ z) ↔ (∀ j : S8x128.Idx, (o j : EReal) ≤ z) ∧ ∀ i k : Fin 512, absE (d (ix2 i k)) ≤ z := by
  rw [← slabMax_all, ← forall_and]
  exact forall_congr' fun j => by rw [pay2_at]; exact max_le_iff

variable (V : (c : Dev nD) → (b : Ref sig .tc) → Buf (Elt Ideal) ((c : Thread nD τ).loc b)) (c : Dev nD) (t : Fin cfg0.N)

/-- The entries of the masked gradient a point meets are bounded by `z`. -/
def PointLe (z : EReal) : Prop := ∀ (b : Fin 4) (i k : Fin 512), absE (masked (lensV V c) (gradV V c) b i (col t k)) ≤ z

/-- A bound of the maxima after a point is a bound of those before it and of the entries the point meets. -/
theorem maxT_le (o : Vec Ideal S8x128 .f32) (z : EReal) :
    (∀ j : S8x128.Idx, (maxT V c t o j : EReal) ≤ z) ↔ (∀ j : S8x128.Idx, (o j : EReal) ≤ z) ∧ PointLe V c t z := by
  have e : ∀ b : Fin 4, (∀ i k : Fin 512, absE (maskT V c t b (ix2 i k)) ≤ z) ↔ ∀ i k : Fin 512, absE (masked (lensV V c) (gradV V c) b i (col t k)) ≤ z :=
    fun b => forall_congr' fun i => forall_congr' fun k => by rw [mask_at]
  unfold maxT
  rw [pay2_le, pay2_le, pay2_le, pay2_le, e, e, e, e]
  unfold PointLe
  constructor
  · rintro ⟨⟨⟨⟨ho, h0⟩, h1⟩, h2⟩, h3⟩
    refine ⟨ho, fun b => ?_⟩
    fin_cases b
    · exact h0
    · exact h1
    · exact h2
    · exact h3
  · exact fun ⟨ho, h⟩ => ⟨⟨⟨⟨ho, h 0⟩, h 1⟩, h 2⟩, h 3⟩

/-- The bounds of the maxima after point `n`. -/
theorem amax_le (z : EReal) : ∀ (n : ℕ) (h : n < cfg0.N), (∀ j : S8x128.Idx, ((heldAt0 V c n h).amax j : EReal) ≤ z) ↔
    (0 ≤ z ∧ ∀ t : Fin cfg0.N, t.val ≤ n → PointLe V c t z) := by
  intro n
  induction n with
  | zero =>
    intro h
    rw [amax_A V c ⟨0, h⟩ rfl rfl (by show ¬0 % 34 = 33; decide), maxT_le]
    refine and_congr ⟨fun h => by simpa only [pay7_at] using h (ix2 0 0), fun h j => by rw [pay7_at]; exact h⟩ ?_
    exact ⟨fun hp t ht => by rwa [show t = ⟨0, h⟩ from Fin.ext (Nat.le_zero.mp ht)], fun hp => hp _ (le_refl _)⟩
  | succ n ih =>
    intro h
    have hn : n < cfg0.N := Nat.lt_of_succ_lt h
    have h68 : n + 1 < 68 := h
    have e : (heldAt0 V c (n + 1) h).amax = maxT V c ⟨n + 1, h⟩ (heldAt0 V c n hn).amax := by
      have h1 : ¬(n + 1) % 68 = 0 := by omega
      by_cases h0 : (n + 1) % 34 = 0
      · exact amax_D V c ⟨n + 1, h⟩ h0 h1 (by show ¬(n + 1) % 34 = 33; omega)
      · by_cases h2 : (n + 1) % 34 = 33
        · exact amax_C V c ⟨n + 1, h⟩ h0 h1 h2
        · exact amax_B V c ⟨n + 1, h⟩ h0 h1 h2
    rw [e, maxT_le, ih hn, and_assoc]
    refine and_congr_right fun _ => ⟨fun ⟨hp, hq⟩ t ht => ?_, fun hp => ⟨fun t ht => hp t (Nat.le_succ_of_le ht), hp _ (le_refl _)⟩⟩
    rcases Nat.lt_or_ge n t.val with hlt | hge
    · rwa [show t = ⟨n + 1, h⟩ from Fin.ext (Nat.le_antisymm ht hlt)]
    · exact hp t hge

/-- The last point of the first call. -/
def last0 : Fin cfg0.N := ⟨67, by decide⟩

/-- The array of maxima the first call leaves is the block after the last point. -/
theorem amax_array : (dat0 V c).arrAt 5 cfg0.N = (heldAt0 V c last0.val last0.isLt).amax := by
  refine (dat0 V c).arrAt_eq_of_after_last 5 last0 (by decide +kernel) _ fun j => ?_
  blk_simp
  rw [after0_5]

/-- A number bounds the maxima the first call leaves exactly when it bounds the absolute value of the masked gradient. -/
theorem amax_array_le (z : EReal) : (∀ j : S8x128.Idx, ((heldAt0 V c last0.val last0.isLt).amax j : EReal) ≤ z) ↔
    ∀ (b : Fin 4) (i : Fin 512) (j : Fin 17408), absE (masked (lensV V c) (gradV V c) b i j) ≤ z := by
  rw [amax_le]
  constructor
  · rintro ⟨-, h⟩ b i j
    have hj := j.isLt
    have ht : j.val / 512 < cfg0.N := by show j.val / 512 < 68; omega
    have := h ⟨j.val / 512, ht⟩ (by show j.val / 512 ≤ 67; omega) b i ⟨j.val % 512, by omega⟩
    have e : col ⟨j.val / 512, ht⟩ ⟨j.val % 512, by omega⟩ = j := Fin.ext (by show j.val / 512 % 34 * 512 + j.val % 512 = j.val; omega)
    rwa [e] at this
  · intro h
    refine ⟨le_trans ?_ (h 0 0 0), fun t _ b i k => h _ _ _⟩
    show (0 : EReal) ≤ max _ (-_)
    rcases le_total 0 (masked (lensV V c) (gradV V c) 0 0 0) with h | h
    · exact le_max_of_le_left h
    · exact le_max_of_le_right (EReal.neg_nonneg.mpr h)

end Cert.Calls
end
-- ==== Proof.HostMax.lean ====
module
public import proofs.«01_k».proof.Proof.DgradMaxima

/-!
# The maximum of a whole array

A maximum over all the positions of an array, begun from minus infinity, is known by its upper bounds: those of every entry.
-/

@[expose] public section
set_option maxRecDepth 16384
noncomputable section
namespace Cert.Calls
open Cert.KernelIdeal Cert.KernelIdeal.Gen
open Idealize.ShloMosaic Idealize.ShloMosaic.TcCoe Idealize.ShloMosaic.Tactic
open Idealize.SL.Sem

/-- A bound of a maximum reduced over all axes from minus infinity is a bound of every entry. -/
theorem hostMax_le {s : Shape} {axes : List (Fin s.rank)} (x : FVec Ideal s .f32) (h : s.ReducesTo axes S_) (hu : 0 < S_.numel) (j : S_.Idx) (z : EReal) :
    (Host.reduce (FloatOps.maximumf (F := Ideal) (φ := .f32)) x (constant (F := Ideal) S_ .f32 0xFF800000#32) h hu j : EReal) ≤ z ↔ ∀ i, (x i : EReal) ≤ z := by
  have e : (Host.reduce (FloatOps.maximumf (F := Ideal) (φ := .f32)) x (constant (F := Ideal) S_ .f32 0xFF800000#32) h hu j : EReal)
      = (Finset.univ.filter fun i => h.drop i = j).fold (max : EReal → EReal → EReal) (Ideal.ofBits .f32 0xFF800000#32) x :=
    Host.reduce_eq_fold (α := EReal) max x _ h hu j
  rw [e, Finset.fold_max_le]
  constructor
  · rintro ⟨-, h'⟩ i
    exact h' i (Finset.mem_filter.mpr ⟨Finset.mem_univ _, funext fun a => a.elim0⟩)
  · exact fun h' => ⟨negInf_le z, fun i _ => h' i⟩

end Cert.Calls
end
-- ==== Proof.KernelValue.lean ====
module
public import proofs.«01_k».proof.Proof.TwoCalls
public import proofs.«01_k».proof.Proof.DgradProduct
public import proofs.«01_k».proof.Proof.WgradArray
public import proofs.«01_k».proof.Proof.HostMax

/-!
# What the kernel computes

The four results at the return, in the formulas of the problem over the arguments: the arrays the two calls leave, read back
through the buffers at each boundary to the arguments at the launch.
-/

@[expose] public section
set_option maxRecDepth 16384
noncomputable section
namespace Cert.Calls
open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- The kernel's arguments. -/
abbrev dyK : Vec Ideal S4x512x17408 .bf16 := m ((c : Thread nD τ).loc main_arg0)
/-- The kernel's argument: the scale of the output gradient. -/
abbrev dyScaleK : Vec Ideal S_ .f32 := m ((c : Thread nD τ).loc main_arg1)
/-- The kernel's argument: the activations. -/
abbrev xK : Vec Ideal S4x512x5120 .fp8e4m3 := m ((c : Thread nD τ).loc main_arg2)
/-- The kernel's argument: the scale of the activations. -/
abbrev xScaleK : Vec Ideal S_ .f32 := m ((c : Thread nD τ).loc main_arg3)
/-- The kernel's argument: the weights. -/
abbrev wK : Vec Ideal S17408x5120 .fp8e4m3 := m ((c : Thread nD τ).loc main_arg4)
/-- The kernel's argument: the scale of the weights. -/
abbrev wScaleK : Vec Ideal S_ .f32 := m ((c : Thread nD τ).loc main_arg5)
/-- The kernel's argument: the running weight gradient. -/
abbrev mainK : Vec Ideal S17408x5120 .f32 := m ((c : Thread nD τ).loc main_arg6)
/-- The kernel's argument: the lengths of the sequences. -/
abbrev lensK : Vec Ideal S4 .i32 := m ((c : Thread nD τ).loc main_arg7)

/-- The codes of the kernel's arguments. -/
abbrev codesK : Vec Ideal S4x512x17408 .fp8e5m2 := codesOf (lensK m c) (dyScaleK m c ix0) (dyK m c)

/-! ## What the first call finds -/

/-- The three scales in one array, in the order gradient, weights, activations. -/
theorem scales_entry : W1 m ρ c (Proc.devRef .tc main_v3)
    = concatenate S3 0 [⟨S1, broadcastInDim S1 ![] bcast_S_S1 (dyScaleK m c)⟩, ⟨S1, broadcastInDim S1 ![] bcast_S_S1 (wScaleK m c)⟩,
        ⟨S1, broadcastInDim S1 ![] bcast_S_S1 (xScaleK m c)⟩] concatenates_S1_S1_S1_S3_d0 := by
  simp only [W1, hostOps0]
  after_results <;> rfl

/-- The first scale is that of the output gradient. -/
theorem scale0 : scalesV (V1 m ρ) c (ix1 0) = dyScaleK m c ix0 := by
  refine (congrFun (scales_entry m ρ c) _).trans ?_
  pointwise []
/-- The second scale is that of the weights. -/
theorem scale1 : scalesV (V1 m ρ) c (ix1 1) = wScaleK m c ix0 := by
  refine (congrFun (scales_entry m ρ c) _).trans ?_
  pointwise []
/-- The third scale is that of the activations. -/
theorem scale2 : scalesV (V1 m ρ) c (ix1 2) = xScaleK m c ix0 := by
  refine (congrFun (scales_entry m ρ c) _).trans ?_
  pointwise []

/-- The first call finds the lengths as launched. -/
theorem lens_entry : lensV (V1 m ρ) c = lensK m c := W1_args m ρ c main_arg7 (by decide)
/-- The first call finds the output gradient as launched. -/
theorem grad_entry : gradV (V1 m ρ) c = dyK m c := W1_args m ρ c main_arg0 (by decide)
/-- The first call finds the weights as launched. -/
theorem weight_entry : weightV (V1 m ρ) c = wK m c := W1_args m ρ c main_arg4 (by decide)

/-- The codes of what the first call finds are those of the arguments. -/
theorem codes_entry : codesV (V1 m ρ) c = codesK m c := by
  unfold codesV
  rw [lens_entry, grad_entry, scale0]

/-! ## What the second call finds -/

/-- The second call finds the codes the first call left. -/
theorem codes_between : codesU (V2 m ρ) c = codesK m c :=
  ((W2_arr m ρ c 6).trans (codes_array (V1 m ρ) c)).trans (codes_entry m ρ c)
/-- The second call finds the activations as launched. -/
theorem acts_between : actsU (V2 m ρ) c = xK m c := W2_args m ρ c main_arg2 (by decide)
/-- The second call finds the running gradient as launched. -/
theorem main_between : mainU (V2 m ρ) c = mainK m c := W2_args m ρ c main_arg6 (by decide)
/-- The second call finds the scales the first call found. -/
theorem scales_between : scalesU (V2 m ρ) c = scalesV (V1 m ρ) c := W2_of m ρ c main_v3 (by decide)

/-! ## The results -/

/-- The first result: the activation gradient. -/
theorem dx_value : W4 m ρ c (Proc.devRef .tc main_v4_0) = gradOf (codesK m c) (wK m c) ((dyScaleK m c ix0 : EReal) * (wScaleK m c ix0 : EReal)) := by
  refine (W4_of m ρ c main_v4_0 (by decide)).trans ((W3_of m ρ c main_v4_0 (by decide)).trans ((W2_arr m ρ c 4).trans ?_))
  rw [dx_array, codes_entry, weight_entry, scale0, scale1]

/-- The fourth result: the codes. -/
theorem codes_value : W4 m ρ c (Proc.devRef .tc main_v4_2) = codesK m c :=
  (W4_of m ρ c main_v4_2 (by decide)).trans ((W3_of m ρ c main_v4_2 (by decide)).trans (codes_between m ρ c))

/-- The second result: the weight gradient. -/
theorem wgrad_value : W4 m ρ c (Proc.devRef .tc main_v5)
    = wgradOf (codesK m c) (xK m c) (mainK m c) ((dyScaleK m c ix0 : EReal) * (xScaleK m c ix0 : EReal)) := by
  refine (W4_of m ρ c main_v5 (by decide)).trans ((W3_arr m ρ c 4).trans ?_)
  rw [wgrad_array, codes_between, acts_between, main_between, scales_between, scale0, scale2]

/-- The largest entry of the block of maxima. -/
def maxAll (x : Vec Ideal S8x128 .f32) : Vec Ideal S_ .f32 :=
  Host.reduce (FloatOps.maximumf (F := Ideal) (φ := .f32)) x (constant (F := Ideal) S_ .f32 0xFF800000#32) reducesTo_S8x128_S_d0_1 h_S_

/-- The third result: the largest absolute value. -/
abbrev amaxK : Vec Ideal S_ .f32 := W4 m ρ c (Proc.devRef .tc main_v6)
/-- The block of maxima the first call leaves. -/
abbrev maximaK : Vec Ideal S8x128 .f32 := W3 m ρ c (Proc.devRef .tc main_v4_1)

/-- The third result is the largest of the block of maxima. -/
theorem amax_final : amaxK m ρ c = maxAll (maximaK m ρ c) := by
  unfold amaxK maximaK maxAll
  simp only [W4, hostOps2]
  after_results <;> rfl

/-- The block of maxima is what the last point of the first call left. -/
theorem amax_before : maximaK m ρ c = (heldAt0 (V1 m ρ) c last0.val last0.isLt).amax :=
  (W3_of m ρ c main_v4_1 (by decide)).trans ((W2_arr m ρ c 5).trans (amax_array (V1 m ρ) c))

/-- The upper bounds of the third result: those of the absolute values of the masked gradient. -/
theorem amax_value_le (j : S_.Idx) (z : EReal) : (amaxK m ρ c j : EReal) ≤ z
    ↔ ∀ (b : Fin 4) (i : Fin 512) (k : Fin 17408), absE (masked (lensK m c) (dyK m c) b i k) ≤ z := by
  rw [amax_final, amax_before, ← lens_entry m ρ c, ← grad_entry m ρ c]
  exact (hostMax_le _ _ _ j z).trans (amax_array_le (V1 m ρ) c z)

/-! ## Equal arguments, equal formulas -/

/-- Equal arguments have equal codes. -/
theorem codesOf_congr {l l' : Vec Ideal S4 .i32} {s s' : Vec Ideal S_ .f32} {d d' : Vec Ideal S4x512x17408 .bf16} (hl : l = l') (hs : s = s') (hd : d = d') :
    codesOf l (s ix0) d = codesOf l' (s' ix0) d' := by rw [hl, hs, hd]

/-- Equal codes, weights and scales have equal activation gradients. -/
theorem gradOf_congr {q q' : Vec Ideal S4x512x17408 .fp8e5m2} {w w' : Vec Ideal S17408x5120 .fp8e4m3} {s s' t t' : Vec Ideal S_ .f32}
    (hq : q = q') (hw : w = w') (hs : s = s') (ht : t = t') :
    gradOf q w ((s ix0 : EReal) * (t ix0 : EReal)) = gradOf q' w' ((s' ix0 : EReal) * (t' ix0 : EReal)) := by rw [hq, hw, hs, ht]

/-- Equal codes, activations, running gradients and scales have equal weight gradients. -/
theorem wgradOf_congr {q q' : Vec Ideal S4x512x17408 .fp8e5m2} {x x' : Vec Ideal S4x512x5120 .fp8e4m3} {g g' : Vec Ideal S17408x5120 .f32} {s s' t t' : Vec Ideal S_ .f32}
    (hq : q = q') (hx : x = x') (hg : g = g') (hs : s = s') (ht : t = t') :
    wgradOf q x g ((s ix0 : EReal) * (t ix0 : EReal)) = wgradOf q' x' g' ((s' ix0 : EReal) * (t' ix0 : EReal)) := by rw [hq, hx, hg, hs, ht]

/-- Equal lengths and gradients have the same upper bounds. -/
theorem bounds_congr {l l' : Vec Ideal S4 .i32} {d d' : Vec Ideal S4x512x17408 .bf16} (hl : l = l') (hd : d = d') (z : EReal) :
    (∀ (b : Fin 4) (i : Fin 512) (k : Fin 17408), absE (masked l d b i k) ≤ z) ↔ ∀ (b : Fin 4) (i : Fin 512) (k : Fin 17408), absE (masked l' d' b i k) ≤ z := by
  rw [hl, hd]

end Cert.Calls
end
-- ==== Proof.RefValue.lean ====
module
public import proofs.«01_k».proof.Proof.Gen.ReferenceIdeal.Run
public import proofs.«01_k».proof.Proof.DgradProduct
public import proofs.«01_k».proof.Proof.WgradArray
public import proofs.«01_k».proof.Proof.HostMax
public import Idealize.ShloMosaic.Lib.Pipeline.ValueKit

/-!
# What the reference computes

The reference's results at an index, in the formulas of the problem: the masked gradient, its codes, the two contractions.
-/

@[expose] public section
set_option maxRecDepth 16384
noncomputable section
namespace Cert.RefValue
open Cert.ReferenceIdeal Cert.ReferenceIdeal.Gen Cert.ReferenceIdeal.Value
open Idealize.ShloMosaic Idealize.ShloMosaic.TcCoe Idealize.ShloMosaic.Tactic
open Idealize.SL.Sem
open Idealize.ShloMosaic.StableHlo (TRef.ternary TRef.unary TRef.toBuf TRef.ofBuf)

variable (m : (ℓ : Loc nD τ sig) → Buf (Elt Ideal) ℓ) (c : Dev nD)

/-- The reference's arguments. -/
abbrev dyR : Vec Ideal S4x512x17408 .bf16 := m ((c.tc : Thread nD τ).loc main_arg0)
/-- The reference's argument: the scale of the output gradient. -/
abbrev dyScaleR : Vec Ideal S_ .f32 := m ((c.tc : Thread nD τ).loc main_arg1)
/-- The reference's argument: the activations. -/
abbrev xR : Vec Ideal S4x512x5120 .fp8e4m3 := m ((c.tc : Thread nD τ).loc main_arg2)
/-- The reference's argument: the scale of the activations. -/
abbrev xScaleR : Vec Ideal S_ .f32 := m ((c.tc : Thread nD τ).loc main_arg3)
/-- The reference's argument: the weights. -/
abbrev wR : Vec Ideal S17408x5120 .fp8e4m3 := m ((c.tc : Thread nD τ).loc main_arg4)
/-- The reference's argument: the scale of the weights. -/
abbrev wScaleR : Vec Ideal S_ .f32 := m ((c.tc : Thread nD τ).loc main_arg5)
/-- The reference's argument: the running weight gradient. -/
abbrev mainR : Vec Ideal S17408x5120 .f32 := m ((c.tc : Thread nD τ).loc main_arg6)
/-- The reference's argument: the lengths of the sequences. -/
abbrev lensR : Vec Ideal S4 .i32 := m ((c.tc : Thread nD τ).loc main_arg7)

/-- The reference's masked gradient. -/
def maskR (lens : Vec Ideal S4 .i32) (dy : Vec Ideal S4x512x17408 .bf16) : FVec Ideal S4x512x17408 .f32 :=
  select (broadcastInDim S4x512x17408 ![0, 1, 2] bcast_S4x512x1_S4x512x17408_0_1_2 (broadcastInDim S4x512x1 ![0, 1] bcast_S4x512_S4x512x1_0_1
    (cmpi .slt (broadcastInDim S4x512 ![0, 1] bcast_S1x512_S4x512_0_1 (broadcastInDim S1x512 ![1] bcast_S512_S1x512_1 (iotaInDim S512 32 0)))
      (broadcastInDim S4x512 ![0, 1] bcast_S4x1_S4x512_0_1 (broadcastInDim S4x1 ![0] bcast_S4_S4x1_0 lens)))))
    (extf .f32 dy bitsLt_bf16_f32) (broadcastInDim S4x512x17408 ![] bcast_S_S4x512x17408 (id (constant S_ .f32 0x00000000#32)))

/-- An entry of the reference's masked gradient. -/
theorem maskR_at (lens : Vec Ideal S4 .i32) (dy : Vec Ideal S4x512x17408 .bf16) (y : S4x512x17408.Idx) :
    maskR lens dy y = Cert.Calls.masked lens dy (y 0) (y 1) (y 2) := by
  have hz : (constant (F := Ideal) S_ FTy.f32 0#32) ix0 = (0 : EReal) := by pointwise []
  unfold maskR Cert.Calls.masked
  pointwise []
  show Scalar.select _ _ (constant (F := Ideal) S_ FTy.f32 0#32 ix0) = _
  rw [hz]

/-- What the reference hands to its quantiser. -/
theorem entry_eq : Gen.V0 m c (Proc.devRef .tc main_v13)
    = mulf (maskR (lensR m c) (dyR m c)) (broadcastInDim S4x512x17408 ![] bcast_S_S4x512x17408 (Host.divf (constant S_ .f32 0x3F800000#32) (dyScaleR m c))) := by
  simp only [Gen.V0, Gen.hostOps0, Gen.hostOps0_1, Gen.hostOps0_2, TRef.ternary, TRef.unary, TRef.toBuf, TRef.ofBuf, cast_eq, List.flatten_cons, List.flatten_nil, List.append_nil, List.cons_append, List.nil_append]
  after_results <;> rfl

/-- An entry of what the reference hands to its quantiser: the masked gradient times the reciprocal of the scale. -/
theorem entry_at (y : S4x512x17408.Idx) : (Gen.V m c main_v13 : Vec Ideal S4x512x17408 .f32) y
    = (Cert.Calls.masked (lensR m c) (dyR m c) (y 0) (y 1) (y 2) * Ideal.div 1 (dyScaleR m c ix0) : EReal) := by
  refine (congrFun (entry_eq m c) y).trans ?_
  rw [← maskR_at]
  generalize maskR (lensR m c) (dyR m c) = d
  pointwise []

/-- An entry of the codes is clipped to the range of the format. -/
theorem pay1_at (v : Vec Ideal S4x512x17408 .f32) (j : S4x512x17408.Idx) :
    k0_pay1 v j = (min (Ideal.ofBits .f32 1197473792#32) (max (Ideal.ofBits .f32 3344957440#32) (v j)) : EReal) := by
  pointwise [k0_pay1]

/-- So is an entry of the codes in the wide format. -/
theorem pay2_at (v : Vec Ideal S4x512x17408 .f32) (j : S4x512x17408.Idx) :
    k0_pay2 v j = (min (Ideal.ofBits .f32 1197473792#32) (max (Ideal.ofBits .f32 3344957440#32) (v j)) : EReal) := by
  pointwise [k0_pay2, k0_pay1]

/-- Every window of the quantiser is at the whole array. -/
theorem idxR : win0_0.index t0_0 = ![0, 0, 0] ∧ win0_1.index t0_0 = ![0, 0, 0] ∧ win0_2.index t0_0 = ![0, 0] ∧ win0_3.index t0_0 = ![0, 0, 0]
    ∧ win0_4.index t0_0 = ![0, 0, 0] ∧ win0_5.index t0_0 = ![0, 0, 0] ∧ win0_6.index t0_0 = ![0, 0] := by decide +kernel

/-- The block the quantiser reads is the whole array. -/
theorem block_eq (j : S4x512x17408.Idx) : (iblk m c 0 t0_0 : Vec Ideal S4x512x17408 .f32) j = (Gen.V m c main_v13 : Vec Ideal S4x512x17408 .f32) j := by
  unfold iblk
  generalize Gen.V m c = v
  blk_point [idxR]

/-- The reference's codes. -/
abbrev codesR : Vec Ideal S4x512x17408 .fp8e5m2 := Cert.Calls.codesOf (lensR m c) (dyScaleR m c ix0) (dyR m c)

/-- The clipped entry is the code. -/
theorem quant_at (j : S4x512x17408.Idx) :
    (min (Ideal.ofBits .f32 1197473792#32) (max (Ideal.ofBits .f32 3344957440#32) ((iblk m c 0 t0_0 : Vec Ideal S4x512x17408 .f32) j)) : EReal) = codesR m c j := by
  rw [block_eq, entry_at]; rfl

/-- The quantiser's first output is the codes. -/
theorem codes_eq : reg_main_v14_0 m c = codesR m c := by
  unfold reg_main_v14_0
  refine (Gen.dats m 0 c).arrAt_eq_of_after_last 3 t0_0 (by decide +kernel) _ fun j => ?_
  blk_simp; rw [after0_3]; frame_out
  exact (pay1_at _ _).trans (quant_at m c j)

/-- Its second output is the same codes. -/
theorem codes_wide_eq : reg_main_v14_1 m c = (codesR m c : Vec Ideal S4x512x17408 .bf16) := by
  unfold reg_main_v14_1
  refine (Gen.dats m 0 c).arrAt_eq_of_after_last 4 t0_0 (by decide +kernel) _ fun j => ?_
  blk_simp; rw [after0_4]; frame_out
  exact (pay2_at _ _).trans (quant_at m c j)

/-- Its third output is the activations. -/
theorem acts_eq : reg_main_v14_2 m c = (xR m c : Vec Ideal S4x512x5120 .bf16) := by
  unfold reg_main_v14_2
  refine (Gen.dats m 0 c).arrAt_eq_of_after_last 5 t0_0 (by decide +kernel) _ fun j => ?_
  blk_simp; rw [after0_5]; frame_out
  pointwise [k0_pay3]
  blk_point [iblk, Gen.V, idxR]

/-- Its fourth output is the weights. -/
theorem weights_eq : reg_main_v14_3 m c = (wR m c : Vec Ideal S17408x5120 .bf16) := by
  unfold reg_main_v14_3
  refine (Gen.dats m 0 c).arrAt_eq_of_after_last 6 t0_0 (by decide +kernel) _ fun j => ?_
  blk_simp; rw [after0_6]; frame_out
  pointwise [k0_pay4]
  blk_point [iblk, Gen.V, idxR]

/-- The reference's activation gradient over any codes and weights. -/
theorem dxR_eq (a : FVec Ideal S4x512x17408 .bf16) (w : FVec Ideal S17408x5120 .bf16) (s1 s2 : FVec Ideal S_ .f32) :
    (truncf .bf16 (mulf (Host.dotGeneral dot_S4x512x17408_S17408x5120_S4x512x5120_2_0_01_1_n_n none a w)
      (broadcastInDim S4x512x5120 ![] bcast_S_S4x512x5120 (mulf s1 s2))) bitsLt_bf16_f32 : FVec Ideal S4x512x5120 .bf16)
      = Cert.Calls.gradOf a w ((s1 ix0 : EReal) * (s2 ix0 : EReal)) := by
  funext y
  unfold Cert.Calls.gradOf
  pointwise []

/-- The reference's weight gradient over any codes and activations. -/
theorem wgradR_eq (a : FVec Ideal S4x512x17408 .bf16) (x : FVec Ideal S4x512x5120 .bf16) (g : FVec Ideal S17408x5120 .f32) (s1 s2 : FVec Ideal S_ .f32) :
    (addf g (mulf (Host.dotGeneral dot_S4x512x17408_S4x512x5120_S17408x5120_01_01_2_2_n_n none a x)
      (broadcastInDim S17408x5120 ![] bcast_S_S17408x5120 (mulf s1 s2))) : FVec Ideal S17408x5120 .f32)
      = Cert.Calls.wgradOf a x g ((s1 ix0 : EReal) * (s2 ix0 : EReal)) := by
  funext y
  unfold Cert.Calls.wgradOf
  pointwise []

/-- The reference's first result. -/
theorem dx_eq :
    (truncf .bf16 (mulf (Host.dotGeneral (φ₁ := .bf16) (φ₂ := .bf16) dot_S4x512x17408_S17408x5120_S4x512x5120_2_0_01_1_n_n none (reg_main_v14_1 m c : FVec Ideal S4x512x17408 .bf16) (reg_main_v14_3 m c : FVec Ideal S17408x5120 .bf16))
      (broadcastInDim S4x512x5120 ![] bcast_S_S4x512x5120 (mulf (dyScaleR m c) (wScaleR m c)))) bitsLt_bf16_f32 : FVec Ideal S4x512x5120 .bf16)
      = Cert.Calls.gradOf (codesR m c) (wR m c) ((dyScaleR m c ix0 : EReal) * (wScaleR m c ix0 : EReal)) := by
  rw [codes_wide_eq, weights_eq]
  exact dxR_eq _ _ _ _

/-- The reference's second result. -/
theorem wgrad_eq :
    (addf (mainR m c) (mulf (Host.dotGeneral (φ₁ := .bf16) (φ₂ := .bf16) dot_S4x512x17408_S4x512x5120_S17408x5120_01_01_2_2_n_n none (reg_main_v14_1 m c : FVec Ideal S4x512x17408 .bf16) (reg_main_v14_2 m c : FVec Ideal S4x512x5120 .bf16))
      (broadcastInDim S17408x5120 ![] bcast_S_S17408x5120 (mulf (dyScaleR m c) (xScaleR m c)))) : FVec Ideal S17408x5120 .f32)
      = Cert.Calls.wgradOf (codesR m c) (xR m c) (mainR m c) ((dyScaleR m c ix0 : EReal) * (xScaleR m c ix0 : EReal)) := by
  rw [codes_wide_eq, acts_eq]
  exact wgradR_eq _ _ _ _ _

/-- The upper bounds of the reference's third result. -/
theorem amax_le (j : S_.Idx) (z : EReal) :
    (Host.reduce (FloatOps.maximumf (F := Ideal) (φ := .f32)) (Host.absf (maskR (lensR m c) (dyR m c))) (constant (F := Ideal) S_ .f32 0xFF800000#32) reducesTo_S4x512x17408_S_d0_1_2 h_S_ j : EReal) ≤ z
      ↔ ∀ (b : Fin 4) (i : Fin 512) (k : Fin 17408), Cert.Calls.absE (Cert.Calls.masked (lensR m c) (dyR m c) b i k) ≤ z := by
  refine (Cert.Calls.hostMax_le _ _ _ j z).trans ?_
  constructor
  · intro h b i k
    have e : maskR (lensR m c) (dyR m c) (ix3 b i k) = Cert.Calls.masked (lensR m c) (dyR m c) b i k := maskR_at _ _ _
    exact (le_of_eq (congrArg Cert.Calls.absE e.symm)).trans (h (ix3 b i k))
  · intro h y
    exact (le_of_eq (congrArg Cert.Calls.absE (maskR_at (lensR m c) (dyR m c) y))).trans (h (y 0) (y 1) (y 2))

end Cert.RefValue
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.KernelValue
public import proofs.«01_k».proof.Proof.RefValue
public import Idealize.ShloMosaic.Adequacy
public import Idealize.ShloMosaic.Init

@[expose] public section

set_option maxRecDepth 100000

noncomputable section

namespace Cert.Proof

open Idealize.ShloMosaic Idealize.SL.Sem Cert.Kernel

/-- The kernel's program and its idealized program are one text, so their mains are equal at every number system. -/
theorem main_eq {F : FTy → Type} [FloatOps F] :
    @Cert.Kernel.main F _ Cert.Kernel.Gen.facts = @Cert.KernelIdeal.main F _ Cert.KernelIdeal.Gen.facts := by sl_kernel_rfl

/-- And so are the bodies their calls run. -/
theorem defs_eq {F : FTy → Type} [FloatOps F] :
    @Cert.Kernel.defs F _ Cert.Kernel.Gen.facts = @Cert.KernelIdeal.defs F _ Cert.KernelIdeal.Gen.facts := by sl_kernel_rfl

/-- Over the extended reals the kernel and the reference compute the same four results from the same arguments. -/
theorem algebraic : Cert.algebraic_KernelIdeal_ReferenceIdeal (hKernelIdeal := Cert.KernelIdeal.Gen.facts) (hReferenceIdeal := Cert.ReferenceIdeal.Gen.facts) := by
  intro m ρ m' ρ' _ hargs
  refine ⟨fun c => Cert.Calls.W4 m ρ c (Proc.devRef .tc Cert.KernelIdeal.main_v4_0), fun c => Cert.Calls.W4 m ρ c (Proc.devRef .tc Cert.KernelIdeal.main_v5),
    fun c => Cert.Calls.W4 m ρ c (Proc.devRef .tc Cert.KernelIdeal.main_v6), fun c => Cert.Calls.W4 m ρ c (Proc.devRef .tc Cert.KernelIdeal.main_v4_2), ?_, ?_⟩
  · exact (θ_run _ _ _).mono (fun _ h c =>
      ⟨h.1 c _ (Cert.Calls.mem_uc Cert.KernelIdeal.main_v4_0 (by decide)), h.1 c _ (Cert.Calls.mem_uc Cert.KernelIdeal.main_v5 (by decide)),
       h.1 c _ (Cert.Calls.mem_uc Cert.KernelIdeal.main_v6 (by decide)), h.1 c _ (Cert.Calls.mem_uc Cert.KernelIdeal.main_v4_2 (by decide)),
       (h.1 c _ (Cert.Calls.mem_uc Cert.KernelIdeal.main_arg0 (by decide))).trans (Cert.Calls.W4_main_arg0 m ρ c),
       (h.1 c _ (Cert.Calls.mem_uc Cert.KernelIdeal.main_arg1 (by decide))).trans (Cert.Calls.W4_main_arg1 m ρ c),
       (h.1 c _ (Cert.Calls.mem_uc Cert.KernelIdeal.main_arg2 (by decide))).trans (Cert.Calls.W4_main_arg2 m ρ c),
       (h.1 c _ (Cert.Calls.mem_uc Cert.KernelIdeal.main_arg3 (by decide))).trans (Cert.Calls.W4_main_arg3 m ρ c),
       (h.1 c _ (Cert.Calls.mem_uc Cert.KernelIdeal.main_arg4 (by decide))).trans (Cert.Calls.W4_main_arg4 m ρ c),
       (h.1 c _ (Cert.Calls.mem_uc Cert.KernelIdeal.main_arg5 (by decide))).trans (Cert.Calls.W4_main_arg5 m ρ c),
       (h.1 c _ (Cert.Calls.mem_uc Cert.KernelIdeal.main_arg6 (by decide))).trans (Cert.Calls.W4_main_arg6 m ρ c),
       (h.1 c _ (Cert.Calls.mem_uc Cert.KernelIdeal.main_arg7 (by decide))).trans (Cert.Calls.W4_main_arg7 m ρ c)⟩) (Cert.Calls.run m ρ)
  · refine (θ_run _ _ _).mono (fun _ h c => ?_) (Cert.ReferenceIdeal.Value.run m' ρ')
    obtain ⟨a0, a1, a2, a3, a4, a5, a6, a7⟩ := hargs c
    obtain ⟨r0, r1, r2, r3, hrest⟩ := h c
    refine ⟨?_, ?_, ?_, ?_, hrest⟩
    · exact r0.trans ((Cert.RefValue.dx_eq m' c).trans
        ((Cert.Calls.gradOf_congr (Cert.Calls.codesOf_congr a7 a1 a0) a4 a1 a5).trans (Cert.Calls.dx_value m ρ c).symm))
    · exact r1.trans ((Cert.RefValue.wgrad_eq m' c).trans
        ((Cert.Calls.wgradOf_congr (Cert.Calls.codesOf_congr a7 a1 a0) a2 a6 a1 a3).trans (Cert.Calls.wgrad_value m ρ c).symm))
    · refine r2.trans (funext fun j => eq_of_forall_ge_iff (α := EReal) fun z => ?_)
      exact (Cert.RefValue.amax_le m' c j z).trans ((Cert.Calls.bounds_congr a7 a0 z).trans (Cert.Calls.amax_value_le m ρ c j z).symm)
    · exact r3.trans ((Cert.RefValue.codes_eq m' c).trans ((Cert.Calls.codesOf_congr a7 a1 a0).trans (Cert.Calls.codes_value m ρ c).symm))

/-- The claim. -/
theorem claim : Cert.Claim :=
  ⟨Cert.Kernel.Gen.facts, Cert.KernelIdeal.Gen.facts, Cert.ReferenceIdeal.Gen.facts,
    fun m ρ _ => by rw [main_eq, defs_eq]; exact Cert.Calls.frame (F := Bits) m ρ,
    fun m ρ _ => Cert.Calls.frame m ρ,
    fun m ρ _ => Cert.ReferenceIdeal.Gen.frame m ρ,
    trivial, algebraic⟩

end Cert.Proof

end
